-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![16, 512, 768]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = Layout.block ⟨3, ![2, 512, 768]⟩ ⟨3, ![16, 512, 768]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x512x768 : Shape := ⟨3, ![2, 512, 768]⟩
abbrev S768x512 : Shape := ⟨2, ![768, 512]⟩
abbrev S16x512x64x64 : Shape := ⟨4, ![16, 512, 64, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S16x512x64x64 : S_.BroadcastsInDim S16x512x64x64 (![] : Fin 0 → Fin S16x512x64x64.rank)
  reducesTo_S16x512x64x64_S_d0_1_2_3 : S16x512x64x64.ReducesTo [0, 1, 2, 3] S_

variable [Facts]

def fn {F : FTy → Type} [FloatOps F] (main_arg0 : FVec F S2x512x768 .f32) (main_arg1 : FVec F S768x512 .f32) (main_arg2 : FVec F S16x512x64x64 .f32) (main_arg3 : FVec F S16x512x64x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S16x512x64x64 .f32 := Host.absf main_arg2
  let main_cst_2 : FVec F S_ .f32 := constant S_ .f32 0x7F800000#32
  let main_v10 : FVec F S16x512x64x64 .f32 := broadcastInDim S16x512x64x64 ![] bcast_S_S16x512x64x64 main_cst_2
  let main_v11 : IVec S16x512x64x64 1 := cmpf .olt main_v9 main_v10
  let main_c_3 : IVec S_ 1 := constantI S_ 1 1#1
  let main_v12 : IVec S_ 1 := (fun x v => Host.reduce IntOp.andi x v reducesTo_S16x512x64x64_S_d0_1_2_3 h_S_) main_v11 main_c_3
  let main_v13 : IVec S_ 1 := andi main_v8 main_v12
  main_v13
-- ==== Pre_scores_finite_ReferenceIdeal.lean ====
abbrev S16x512x768 : Shape := ⟨3, ![16, 512, 768]⟩
abbrev S768x4096 : Shape := ⟨2, ![768, 4096]⟩
abbrev S16x512x64x64 : Shape := ⟨4, ![16, 512, 64, 64]⟩
abbrev S4096x768 : Shape := ⟨2, ![4096, 768]⟩
abbrev S_ : Shape := ⟨0, ![]⟩

class Facts : Prop where
  bcast_S_S16x512x768 : S_.BroadcastsInDim S16x512x768 (![] : Fin 0 → Fin S16x512x768.rank)
  reducesTo_S16x512x768_S_d0_1_2 : S16x512x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S16x512x64x64 : S_.BroadcastsInDim S16x512x64x64 (![] : Fin 0 → Fin S16x512x64x64.rank)
  reducesTo_S16x512x64x64_S_d0_1_2_3 : S16x512x64x64.ReducesTo [0, 1, 2, 3] S_

variable [Facts]

def fn {F : FTy → Type} [FloatOps F] (main_arg0 : FVec F S16x512x768 .f32) (main_arg1 : FVec F S768x4096 .f32) (main_arg2 : FVec F S16x512x64x64 .f32) (main_arg3 : FVec F S16x512x64x64 .f32) (main_arg4 : FVec F S4096x768 .f32) : IVec S_ 1 :=
  let main_v0 : FVec F S16x512x768 .f32 := Host.absf main_arg0
  let main_cst : FVec F S_ .f32 := constant S_ .f32 0x7F800000#32
  let main_v1 : FVec F S16x512x768 .f32 := broadcastInDim S16x512x768 ![] bcast_S_S16x512x768 main_cst
  let main_v2 : IVec S16x512x768 1 := cmpf .olt main_v0 main_v1
  let main_c : IVec S_ 1 := constantI S_ 1 1#1
  let main_v3 : IVec S_ 1 := (fun x v => Host.reduce IntOp.andi x v reducesTo_S16x512x768_S_d0_1_2 h_S_) main_v2 main_c
  let main_v4 : FVec F S768x4096 .f32 := Host.absf main_arg1
  let main_cst_0 : FVec F S_ .f32 := constant S_ .f32 0x7F800000#32
  let main_v5 : FVec F S768x4096 .f32 := broadcastInDim S768x4096 ![] bcast_S_S768x4096 main_cst_0
  let main_v6 : IVec S768x4096 1 := cmpf .olt main_v4 main_v5
  let main_c_1 : IVec S_ 1 := constantI S_ 1 1#1
  let main_v7 : IVec S_ 1 := (fun x v => Host.reduce IntOp.andi x v reducesTo_S768x4096_S_d0_1 h_S_) main_v6 main_c_1
  let main_v8 : IVec S_ 1 := andi main_v3 main_v7
  let main_v9 : FVec F S16x512x64x64 .f32 := Host.absf main_arg2
  let main_cst_2 : FVec F S_ .f32 := constant S_ .f32 0x7F800000#32
  let main_v10 : FVec F S16x512x64x64 .f32 := broadcastInDim S16x512x64x64 ![] bcast_S_S16x512x64x64 main_cst_2
  let main_v11 : IVec S16x512x64x64 1 := cmpf .olt main_v9 main_v10
  let main_c_3 : IVec S_ 1 := constantI S_ 1 1#1
  let main_v12 : IVec S_ 1 := (fun x v => Host.reduce IntOp.andi x v reducesTo_S16x512x64x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S16x512x64x64 : Shape := ⟨4, ![16, 512, 64, 64]⟩
abbrev S512x768 : Shape := ⟨2, ![512, 768]⟩
abbrev S_ : Shape := ⟨0, ![]⟩
abbrev S1x512x768 : Shape := ⟨3, ![1, 512, 768]⟩
abbrev S2x512x64x64 : Shape := ⟨4, ![2, 512, 64, 64]⟩
abbrev S64x2x64x512 : Shape := ⟨4, ![64, 2, 64, 512]⟩
abbrev S64x2x1x512 : Shape := ⟨4, ![64, 2, 1, 512]⟩
abbrev S64x2x65x512 : Shape := ⟨4, ![64, 2, 65, 512]⟩
abbrev S5x2x512x768 : Shape := ⟨4, ![5, 2, 512, 768]⟩
abbrev S512x1024 : Shape := ⟨2, ![512, 1024]⟩
abbrev S4 : Shape := ⟨1, ![4]⟩
abbrev S5 : Shape := ⟨1, ![5]⟩
abbrev S512x512 : Shape := ⟨2, ![512, 512]⟩
abbrev S1 : Shape := ⟨1, ![1]⟩
abbrev S1x2x512x768 : Shape := ⟨4, ![1, 2, 512, 768]⟩
abbrev S1024x768 : Shape := ⟨2, ![1024, 768]⟩
abbrev S64x512 : Shape := ⟨2, ![64, 512]⟩
abbrev S1x1x64x512 : Shape := ⟨4, ![1, 1, 64, 512]⟩
abbrev S1x1x65x512 : Shape := ⟨4, ![1, 1, 65, 512]⟩
abbrev S65x512 : Shape := ⟨2, ![65, 512]⟩
abbrev S1x512 : Shape := ⟨2, ![1, 512]⟩
abbrev S1x1x512x768 : Shape := ⟨4, ![1, 1, 512, 768]⟩

abbrev nBuf : Space → Nat
  | .hbm => 50
  | .vmem => 9
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S16x512x64x64, .f32⟩
  | .hbm, ⟨3, _⟩ => ⟨S16x512x64x64, .f32⟩
  | .hbm, ⟨4, _⟩ => ⟨S512x768, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .f32⟩
  | .hbm, ⟨12, _⟩ => ⟨S2x512x768, .f32⟩
  | .hbm, ⟨13, _⟩ => ⟨S2x512x768, .f32⟩
  | .hbm, ⟨14, _⟩ => ⟨S2x512x768, .bf16⟩
  | .hbm, ⟨15, _⟩ => ⟨S512x768, .f32⟩
  | .hbm, ⟨16, _⟩ => ⟨S1x512x768, .f32⟩
  | .hbm, ⟨17, _⟩ => ⟨S1x512x768, .f32⟩
  | .hbm, ⟨18, _⟩ => ⟨S2x512x768, .f32⟩
  | .hbm, ⟨19, _⟩ => ⟨S2x512x768, .bf16⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S2x512x64x64, .f32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S2x512x64x64, .f32⟩
  | .hbm, ⟨42, _⟩ => ⟨S2x512x64x64, .bf16⟩
  | .hbm, ⟨43, _⟩ => ⟨S64x2x64x512, .bf16⟩
  | .hbm, ⟨44, _⟩ => ⟨S2x512x64x64, .bf16⟩
  | .hbm, ⟨45, _⟩ => ⟨S64x2x64x512, .bf16⟩
  | .hbm, ⟨46, _⟩ => ⟨S_, .bf16⟩
  | .hbm, ⟨47, _⟩ => ⟨S64x2x1x512, .bf16⟩
  | .hbm, ⟨48, _⟩ => ⟨S64x2x65x512, .bf16⟩
  | .hbm, ⟨49, _⟩ => ⟨S2x512x768, .f32⟩
  | .local _ .vmem, ⟨0, _⟩ => ⟨S2x512x768, .bf16⟩
  | .local _ .vmem, ⟨1, _⟩ => ⟨S2x512x768, .bf16⟩
  | .local _ .vmem, ⟨2, _⟩ => ⟨S64x2x64x512, .bf16⟩
  | .local _ .vmem, ⟨3, _⟩ => ⟨S64x2x65x512, .bf16⟩
  | .local _ .vmem, ⟨4, _⟩ => ⟨S2x512x768, .f32⟩
  | .local _ .vmem, ⟨5, _⟩ => ⟨S5x2x512x768, .bf16⟩
  | .local _ .vmem, ⟨6, _⟩ => ⟨S5x2x512x768, .bf16⟩
  | .local _ .vmem, ⟨7, _⟩ => ⟨S512x1024, .bf16⟩
  | .local _ .vmem, ⟨8, _⟩ => ⟨S512x1024, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_c_5 : Ref sig .tc := ⟨.hbm, 28, rfl⟩
abbrev main_c_6 : Ref sig .tc := ⟨.hbm, 29, rfl⟩
abbrev main_v17 : Ref sig .tc := ⟨.hbm, 30, rfl⟩
abbrev main_c_7 : Ref sig .tc := ⟨.hbm, 31, rfl⟩
abbrev main_v18 : Ref sig .tc := ⟨.hbm, 32, rfl⟩
abbrev main_c_8 : Ref sig .tc := ⟨.hbm, 33, rfl⟩
abbrev main_v19 : Ref sig .tc := ⟨.hbm, 34, rfl⟩
abbrev main_c_9 : Ref sig .tc := ⟨.hbm, 35, rfl⟩
abbrev main_v20 : Ref sig .tc := ⟨.hbm, 36, rfl⟩
abbrev main_v21 : Ref sig .tc := ⟨.hbm, 37, rfl⟩
abbrev main_c_10 : Ref sig .tc := ⟨.hbm, 38, rfl⟩
abbrev main_c_11 : Ref sig .tc := ⟨.hbm, 39, rfl⟩
abbrev main_c_12 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_13 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_29 : BitVec 32 := 1#32
  let v76 : BitVec 32 := Scalar.muli v7 c1_i32_29
  let v77 : BitVec 32 := Scalar.addi c0_i32_30 v76
  v77.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_37 : BitVec 32 := 1#32
  let v84 : BitVec 32 := Scalar.muli v5 c1_i32_37
  let v85 : BitVec 32 := Scalar.addi c0_i32_38 v84
  v85.toNat
def k0_off1 (d0 : Dev nD) (c0_i32_53 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_52 : BitVec 32 := 8#32
  let v104 : BitVec 32 := Scalar.muli v2 c8_i32_52
  let v105 : BitVec 32 := Scalar.addi v104 c0_i32_53
  let v107 : Index := Scalar.indexCast v105
  let c0_56 : Index := 0#32
  let c0_57 : Index := 0#32
  let c0_58 : Index := 0#32
  ![v107.toNat, 0, 0, 0]
def k0_off2 (d0 : Dev nD) (c0_i32_53 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_52 : BitVec 32 := 8#32
  let v104 : BitVec 32 := Scalar.muli v2 c8_i32_52
  let v105 : BitVec 32 := Scalar.addi v104 c0_i32_53
  let v113 : Index := Scalar.indexCast v105
  let c0_60 : Index := 0#32
  let c0_61 : Index := 0#32
  let c0_62 : Index := 0#32
  ![v113.toNat, 0, 0, 0]
def k0_off3 (d0 : Dev nD) (c0_i32_53 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_52 : BitVec 32 := 8#32
  let v104 : BitVec 32 := Scalar.muli v2 c8_i32_52
  let v105 : BitVec 32 := Scalar.addi v104 c0_i32_53
  let v127 : Index := Scalar.indexCast v105
  let c1_67 : Index := 1#32
  let c0_68 : Index := 0#32
  let c0_69 : Index := 0#32
  ![v127.toNat, 1, 0, 0]
def k0_off4 (d0 : Dev nD) (c0_i32_53 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_52 : BitVec 32 := 8#32
  let v104 : BitVec 32 := Scalar.muli v2 c8_i32_52
  let v105 : BitVec 32 := Scalar.addi v104 c0_i32_53
  let v133 : Index := Scalar.indexCast v105
  let c1_71 : Index := 1#32
  let c0_72 : Index := 0#32
  let c0_73 : Index := 0#32
  ![v133.toNat, 1, 0, 0]
def k0_dev5 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_291 : BitVec 32 := 1#32
  let v470 : BitVec 32 := Scalar.muli v7 c1_i32_291
  let v471 : BitVec 32 := Scalar.addi c0_i32_292 v470
  v471.toNat
def k0_dev6 (d0 : Dev nD) : Nat :=
  let c0_i32_304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_303 : BitVec 32 := 1#32
  let v480 : BitVec 32 := Scalar.muli v5 c1_i32_303
  let v481 : BitVec 32 := Scalar.addi c0_i32_304 v480
  v481.toNat
def k0_off5 (d0 : Dev nD) (c1_i32_311 : BitVec 32) (c0_i32_329 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v490 : BitVec 32 := Scalar.subi v2 c1_i32_311
  let c8_i32_312 : BitVec 32 := 8#32
  let v491 : BitVec 32 := Scalar.addi v490 c8_i32_312
  let c8_i32_313 : BitVec 32 := 8#32
  let v492 : BitVec 32 := Scalar.remsi v491 c8_i32_313
  let c8_i32_328 : BitVec 32 := 8#32
  let v505 : BitVec 32 := Scalar.muli v492 c8_i32_328
  let v506 : BitVec 32 := Scalar.addi v505 c0_i32_329
  let v508 : Index := Scalar.indexCast v506
  let c0_332 : Index := 0#32
  let c0_333 : Index := 0#32
  let c0_334 : Index := 0#32
  ![v508.toNat, 0, 0, 0]
def k0_off6 (d0 : Dev nD) (c1_i32_311 : BitVec 32) (c0_i32_329 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v490 : BitVec 32 := Scalar.subi v2 c1_i32_311
  let c8_i32_312 : BitVec 32 := 8#32
  let v491 : BitVec 32 := Scalar.addi v490 c8_i32_312
  let c8_i32_313 : BitVec 32 := 8#32
  let v492 : BitVec 32 := Scalar.remsi v491 c8_i32_313
  let c8_i32_328 : BitVec 32 := 8#32
  let v505 : BitVec 32 := Scalar.muli v492 c8_i32_328
  let v506 : BitVec 32 := Scalar.addi v505 c0_i32_329
  let v514 : Index := Scalar.indexCast v506
  let c0_336 : Index := 0#32
  let c0_337 : Index := 0#32
  let c0_338 : Index := 0#32
  ![v514.toNat, 0, 0, 0]
def k0_off7 (d0 : Dev nD) (c1_i32_311 : BitVec 32) (c0_i32_329 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v490 : BitVec 32 := Scalar.subi v2 c1_i32_311
  let c8_i32_312 : BitVec 32 := 8#32
  let v491 : BitVec 32 := Scalar.addi v490 c8_i32_312
  let c8_i32_313 : BitVec 32 := 8#32
  let v492 : BitVec 32 := Scalar.remsi v491 c8_i32_313
  let c8_i32_328 : BitVec 32 := 8#32
  let v505 : BitVec 32 := Scalar.muli v492 c8_i32_328
  let v506 : BitVec 32 := Scalar.addi v505 c0_i32_329
  let v528 : Index := Scalar.indexCast v506
  let c1_344 : Index := 1#32
  let c0_345 : Index := 0#32
  let c0_346 : Index := 0#32
  ![v528.toNat, 1, 0, 0]
def k0_off8 (d0 : Dev nD) (c1_i32_311 : BitVec 32) (c0_i32_329 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v490 : BitVec 32 := Scalar.subi v2 c1_i32_311
  let c8_i32_312 : BitVec 32 := 8#32
  let v491 : BitVec 32 := Scalar.addi v490 c8_i32_312
  let c8_i32_313 : BitVec 32 := 8#32
  let v492 : BitVec 32 := Scalar.remsi v491 c8_i32_313
  let c8_i32_328 : BitVec 32 := 8#32
  let v505 : BitVec 32 := Scalar.muli v492 c8_i32_328
  let v506 : BitVec 32 := Scalar.addi v505 c0_i32_329
  let v534 : Index := Scalar.indexCast v506
  let c1_348 : Index := 1#32
  let c0_349 : Index := 0#32
  let c0_350 : Index := 0#32
  ![v534.toNat, 1, 0, 0]
def k0_off9 (d0 : Dev nD) (c1_i32_551 : BitVec 32) (c0_i32_568 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v857 : BitVec 32 := Scalar.addi v2 c1_i32_551
  let c8_i32_552 : BitVec 32 := 8#32
  let v858 : BitVec 32 := Scalar.remsi v857 c8_i32_552
  let c8_i32_567 : BitVec 32 := 8#32
  let v871 : BitVec 32 := Scalar.muli v858 c8_i32_567
  let v872 : BitVec 32 := Scalar.addi v871 c0_i32_568
  let v874 : Index := Scalar.indexCast v872
  let c0_571 : Index := 0#32
  let c0_572 : Index := 0#32
  let c0_573 : Index := 0#32
  ![v874.toNat, 0, 0, 0]
def k0_off10 (d0 : Dev nD) (c1_i32_551 : BitVec 32) (c0_i32_568 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v857 : BitVec 32 := Scalar.addi v2 c1_i32_551
  let c8_i32_552 : BitVec 32 := 8#32
  let v858 : BitVec 32 := Scalar.remsi v857 c8_i32_552
  let c8_i32_567 : BitVec 32 := 8#32
  let v871 : BitVec 32 := Scalar.muli v858 c8_i32_567
  let v872 : BitVec 32 := Scalar.addi v871 c0_i32_568
  let v880 : Index := Scalar.indexCast v872
  let c0_575 : Index := 0#32
  let c0_576 : Index := 0#32
  let c0_577 : Index := 0#32
  ![v880.toNat, 0, 0, 0]
def k0_off11 (d0 : Dev nD) (c1_i32_551 : BitVec 32) (c0_i32_568 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v857 : BitVec 32 := Scalar.addi v2 c1_i32_551
  let c8_i32_552 : BitVec 32 := 8#32
  let v858 : BitVec 32 := Scalar.remsi v857 c8_i32_552
  let c8_i32_567 : BitVec 32 := 8#32
  let v871 : BitVec 32 := Scalar.muli v858 c8_i32_567
  let v872 : BitVec 32 := Scalar.addi v871 c0_i32_568
  let v894 : Index := Scalar.indexCast v872
  let c1_583 : Index := 1#32
  let c0_584 : Index := 0#32
  let c0_585 : Index := 0#32
  ![v894.toNat, 1, 0, 0]
def k0_off12 (d0 : Dev nD) (c1_i32_551 : BitVec 32) (c0_i32_568 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v857 : BitVec 32 := Scalar.addi v2 c1_i32_551
  let c8_i32_552 : BitVec 32 := 8#32
  let v858 : BitVec 32 := Scalar.remsi v857 c8_i32_552
  let c8_i32_567 : BitVec 32 := 8#32
  let v871 : BitVec 32 := Scalar.muli v858 c8_i32_567
  let v872 : BitVec 32 := Scalar.addi v871 c0_i32_568
  let v900 : Index := Scalar.indexCast v872
  let c1_587 : Index := 1#32
  let c0_588 : Index := 0#32
  let c0_589 : Index := 0#32
  ![v900.toNat, 1, 0, 0]
def k0_dev7 (d0 : Dev nD) : Nat :=
  let c0_i32_841 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_840 : BitVec 32 := 1#32
  let v1251 : BitVec 32 := Scalar.muli v7 c1_i32_840
  let v1252 : BitVec 32 := Scalar.addi c0_i32_841 v1251
  v1252.toNat
def k0_dev8 (d0 : Dev nD) : Nat :=
  let c0_i32_853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_852 : BitVec 32 := 1#32
  let v1261 : BitVec 32 := Scalar.muli v5 c1_i32_852
  let v1262 : BitVec 32 := Scalar.addi c0_i32_853 v1261
  v1262.toNat
def k0_dev9 (d0 : Dev nD) : Nat :=
  let c0_i32_1391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1390 : BitVec 32 := 1#32
  let v2032 : BitVec 32 := Scalar.muli v7 c1_i32_1390
  let v2033 : BitVec 32 := Scalar.addi c0_i32_1391 v2032
  v2033.toNat
def k0_dev10 (d0 : Dev nD) : Nat :=
  let c0_i32_1403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1402 : BitVec 32 := 1#32
  let v2042 : BitVec 32 := Scalar.muli v5 c1_i32_1402
  let v2043 : BitVec 32 := Scalar.addi c0_i32_1403 v2042
  v2043.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x2x65x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S16x512x768 : Shape := ⟨3, ![16, 512, 768]⟩
abbrev S768x4096 : Shape := ⟨2, ![768, 4096]⟩
abbrev S16x512x64x64 : Shape := ⟨4, ![16, 512, 64, 64]⟩
abbrev S4096x768 : Shape := ⟨2, ![4096, 768]⟩
abbrev S16x512x4096 : Shape := ⟨3, ![16, 512, 4096]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S16x64x512x512 : Shape := ⟨4, ![16, 64, 512, 512]⟩
abbrev S1x1x512x512 : Shape := ⟨4, ![1, 1, 512, 512]⟩
abbrev S16x64x512 : Shape := ⟨3, ![16, 64, 512]⟩
abbrev S16x64x512x1 : Shape := ⟨4, ![16, 64, 512, 1]⟩
abbrev S1x1x512x1 : Shape := ⟨4, ![1, 1, 512, 1]⟩
abbrev S16x64x64x512 : Shape := ⟨4, ![16, 64, 64, 512]⟩

abbrev nBuf : Space → Nat
  | .hbm => 123
  | .vmem => 0
  | .smem => 0
  | _ => 0

abbrev bufTy : (tb : Table) → Fin (tcTables nBuf tb) → BufTy
  | .hbm, ⟨0, _⟩ => ⟨S16x512x768, .f32⟩
  | .hbm, ⟨1, _⟩ => ⟨S768x4096, .f32⟩
  | .hbm, ⟨2, _⟩ => ⟨S16x512x64x64, .f32⟩
  | .hbm, ⟨3, _⟩ => ⟨S16x512x64x64, .f32⟩
  | .hbm, ⟨4, _⟩ => ⟨S4096x768, .f32⟩
  | .hbm, ⟨5, _⟩ => ⟨S16x512x4096, .f32⟩
  | .hbm, ⟨6, _⟩ => ⟨S16x512x64x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S_, .i32⟩
  | .hbm, ⟨51, _⟩ => ⟨S1x512, .i32⟩
  | .hbm, ⟨52, _⟩ => ⟨S1x512, .i1⟩
  | .hbm, ⟨53, _⟩ => ⟨S512x512, .i1⟩
  | .hbm, ⟨54, _⟩ => ⟨S512x512, .i1⟩
  | .hbm, ⟨55, _⟩ => ⟨S512x512, .i32⟩
  | .hbm, ⟨56, _⟩ => ⟨S512x512, .i32⟩
  | .hbm, ⟨57, _⟩ => ⟨S512x512, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S512x512, .i32⟩
  | .hbm, ⟨65, _⟩ => ⟨S512x512, .i32⟩
  | .hbm, ⟨66, _⟩ => ⟨S_, .i32⟩
  | .hbm, ⟨67, _⟩ => ⟨S512x512, .i32⟩
  | .hbm, ⟨68, _⟩ => ⟨S512x512, .i1⟩
  | .hbm, ⟨69, _⟩ => ⟨S_, .i32⟩
  | .hbm, ⟨70, _⟩ => ⟨S512x512, .i32⟩
  | .hbm, ⟨71, _⟩ => ⟨S512x512, .i1⟩
  | .hbm, ⟨72, _⟩ => ⟨S_, .i32⟩
  | .hbm, ⟨73, _⟩ => ⟨S_, .i1⟩
  | .hbm, ⟨74, _⟩ => ⟨S512x512, .i1⟩
  | .hbm, ⟨75, _⟩ => ⟨S512x512, .i1⟩
  | .hbm, ⟨76, _⟩ => ⟨S512x512, .i1⟩
  | .hbm, ⟨77, _⟩ => ⟨S512x512, .i32⟩
  | .hbm, ⟨78, _⟩ => ⟨S512x512, .i32⟩
  | .hbm, ⟨79, _⟩ => ⟨S512x512, .i32⟩
  | .hbm, ⟨80, _⟩ => ⟨S_, .i32⟩
  | .hbm, ⟨81, _⟩ => ⟨S512x512, .i32⟩
  | .hbm, ⟨82, _⟩ => ⟨S512x512, .i1⟩
  | .hbm, ⟨83, _⟩ => ⟨S512x512, .i1⟩
  | .hbm, ⟨84, _⟩ => ⟨S16x64x512x512, .f32⟩
  | .hbm, ⟨85, _⟩ => ⟨S_, .f32⟩
  | .hbm, ⟨86, _⟩ => ⟨S16x64x512x512, .f32⟩
  | .hbm, ⟨87, _⟩ => ⟨S16x64x512x512, .f32⟩
  | .hbm, ⟨88, _⟩ => ⟨S1x1x512x512, .i1⟩
  | .hbm, ⟨89, _⟩ => ⟨S_, .f32⟩
  | .hbm, ⟨90, _⟩ => ⟨S_, .f32⟩
  | .hbm, ⟨91, _⟩ => ⟨S16x64x512x512, .i1⟩
  | .hbm, ⟨92, _⟩ => ⟨S16x64x512x512, .f32⟩
  | .hbm, ⟨93, _⟩ => ⟨S16x64x512x512, .f32⟩
  | .hbm, ⟨94, _⟩ => ⟨S_, .f32⟩
  | .hbm, ⟨95, _⟩ => ⟨S16x64x512, .f32⟩
  | .hbm, ⟨96, _⟩ => ⟨S16x64x512x1, .f32⟩
  | .hbm, ⟨97, _⟩ => ⟨S16x64x512x512, .f32⟩
  | .hbm, ⟨98, _⟩ => ⟨S16x64x512x512, .f32⟩
  | .hbm, ⟨99, _⟩ => ⟨S16x64x512x512, .f32⟩
  | .hbm, ⟨100, _⟩ => ⟨S_, .i1⟩
  | .hbm, ⟨101, _⟩ => ⟨S512, .i1⟩
  | .hbm, ⟨102, _⟩ => ⟨S1x1x512x1, .i1⟩
  | .hbm, ⟨103, _⟩ => ⟨S_, .f32⟩
  | .hbm, ⟨104, _⟩ => ⟨S16x64x512, .f32⟩
  | .hbm, ⟨105, _⟩ => ⟨S16x64x512x1, .f32⟩
  | .hbm, ⟨106, _⟩ => ⟨S_, .f32⟩
  | .hbm, ⟨107, _⟩ => ⟨S_, .f32⟩
  | .hbm, ⟨108, _⟩ => ⟨S16x64x512x1, .i1⟩
  | .hbm, ⟨109, _⟩ => ⟨S16x64x512x1, .f32⟩
  | .hbm, ⟨110, _⟩ => ⟨S16x64x512x1, .f32⟩
  | .hbm, ⟨111, _⟩ => ⟨S16x64x512x512, .f32⟩
  | .hbm, ⟨112, _⟩ => ⟨S16x64x512x512, .f32⟩
  | .hbm, ⟨113, _⟩ => ⟨S1x1x512x1, .i1⟩
  | .hbm, ⟨114, _⟩ => ⟨S_, .f32⟩
  | .hbm, ⟨115, _⟩ => ⟨S_, .f32⟩
  | .hbm, ⟨116, _⟩ => ⟨S16x64x512x512, .i1⟩
  | .hbm, ⟨117, _⟩ => ⟨S16x64x512x512, .f32⟩
  | .hbm, ⟨118, _⟩ => ⟨S16x64x512x512, .f32⟩
  | .hbm, ⟨119, _⟩ => ⟨S16x64x64x512, .f32⟩
  | .hbm, ⟨120, _⟩ => ⟨S16x512x64x64, .f32⟩
  | .hbm, ⟨121, _⟩ => ⟨S16x512x4096, .f32⟩
  | .hbm, ⟨122, _⟩ => ⟨S16x512x768, .f32⟩
  | _, _ => ⟨S16x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Body.lean ====
module

public import proofs.«01_k».proof.Proof.Gen.KernelIdeal.Skeleton

/-!
# The kernel's body, read as a program of rounds

The printed body is one long sequence of memory operations.  Here it is written with its structure:
a head (one head of one batch row), a group (the eight heads of one block of weights on both batch
rows), an accumulation into the result, the transfers and the waits of a round.  `body_eq` says the
printed body is that program.
-/

@[expose] public section

noncomputable section

namespace Cert.KernelIdeal.Body

open Idealize.ShloMosaic Idealize.SL.Sem
open Cert.KernelIdeal Cert.KernelIdeal.Gen

variable {F : FTy → Type} [FloatOps F] [Named F]

/-- A program of the kernel's core. -/
abbrev P (F : FTy → Type) [FloatOps F] : Type 1 := Prog (TpuEff nD τ sig (Elt F) Λ₀ .tc) PUnit

/-- A head's rectangle of the projected queries (and of the context): rows `64 h …`, columns `512 b …`. -/
abbrev hOff (h : Fin 8) (b : Fin 2) : Fin 2 → Nat := ![64 * h.val, 512 * b.val]
theorem hOff_inb : ∀ (h : Fin 8) (b : Fin 2), ∀ a, hOff h b a + S64x512.size a ≤ S512x1024.size a := by decide
/-- That rectangle of the square `[512, 1024]`. -/
abbrev hRect (h : Fin 8) (b : Fin 2) : Rect S512x1024 := Rect.unit (s := S512x1024) (hOff h b) S64x512.size (hOff_inb h b)
theorem hRect_packed : ∀ (h : Fin 8) (b : Fin 2), (hRect h b).PackedRows (EltTy.packing .bf16) := by decide

/-- Where a group's heads lie in the keys and the values: for a head and a batch row, the offset and its bound. -/
structure Offs where
  /-- the keys' offset -/
  ko : Fin 8 → Fin 2 → Fin 4 → Nat
  ki : ∀ h b a, ko h b a + S1x1x64x512.size a ≤ S64x2x64x512.size a
  /-- the values' offset -/
  vo : Fin 8 → Fin 2 → Fin 4 → Nat
  vi : ∀ h b a, vo h b a + S1x1x65x512.size a ≤ S64x2x65x512.size a

/-- A choice by the batch row. -/
def byB {α : Type} (x y : α) : Fin 2 → α
  | 0 => x
  | 1 => y

/-- The first round's offsets: the device's own block. -/
def offs0 (d : Dev nD) : Offs where
  ko h b := byB (k0_off1 d (BitVec.ofNat 32 h.val)) (k0_off3 d (BitVec.ofNat 32 h.val)) b
  ki h b := match b with | 0 => k0_off1_inb d h | 1 => k0_off3_inb d h
  vo h b := byB (k0_off2 d (BitVec.ofNat 32 h.val)) (k0_off4 d (BitVec.ofNat 32 h.val)) b
  vi h b := match b with | 0 => k0_off2_inb d h | 1 => k0_off4_inb d h

/-- The offsets of the block that came from the left in round `1 + r`. -/
def offsR (d : Dev nD) (r : Fin 3) : Offs where
  ko h b := byB (k0_off5 d (BitVec.ofNat 32 (1 + r.val)) (BitVec.ofNat 32 h.val)) (k0_off7 d (BitVec.ofNat 32 (1 + r.val)) (BitVec.ofNat 32 h.val)) b
  ki h b := match b with | 0 => k0_off5_inb d r h | 1 => k0_off7_inb d r h
  vo h b := byB (k0_off6 d (BitVec.ofNat 32 (1 + r.val)) (BitVec.ofNat 32 h.val)) (k0_off8 d (BitVec.ofNat 32 (1 + r.val)) (BitVec.ofNat 32 h.val)) b
  vi h b := match b with | 0 => k0_off6_inb d r h | 1 => k0_off8_inb d r h

/-- The offsets of the block that came from the right in round `1 + r`. -/
def offsL (d : Dev nD) (r : Fin 4) : Offs where
  ko h b := byB (k0_off9 d (BitVec.ofNat 32 (1 + r.val)) (BitVec.ofNat 32 h.val)) (k0_off11 d (BitVec.ofNat 32 (1 + r.val)) (BitVec.ofNat 32 h.val)) b
  ki h b := match b with | 0 => k0_off9_inb d r h | 1 => k0_off11_inb d r h
  vo h b := byB (k0_off10 d (BitVec.ofNat 32 (1 + r.val)) (BitVec.ofNat 32 h.val)) (k0_off12 d (BitVec.ofNat 32 (1 + r.val)) (BitVec.ofNat 32 h.val)) b
  vi h b := match b with | 0 => k0_off10_inb d r h | 1 => k0_off12_inb d r h

/-! ## The values a group computes -/

/-- The projected queries of a block: its `Wq` part against the rows of `x`. -/
def qPay (w : FVec F S512x768 .bf16) (x : Vec F S2x512x768 .bf16) : FVec F S512x1024 .bf16 :=
  shapeCast S512x1024
    (truncf .bf16
      (matmul dot_S512x768_S1024x768_S512x1024_1_1_0_0_n_n none w
        (shapeCast S1024x768 (shapeCast S2x512x768 x shapeCasts_S2x512x768_S2x512x768) shapeCasts_S2x512x768_S1024x768)
        (constant S512x1024 .f32 0x00000000#32)) bitsLt_bf16_f32)
    shapeCasts_S512x1024_S512x1024

/-- A block's context against its `Wo` part. -/
abbrev oPay (wo : FVec F S512x768 .bf16) (cx : Vec F S512x1024 .bf16) : FVec F S1024x768 .f32 := k0_pay33 wo cx

/-- The mask, added to the scores. -/
abbrev bias : FVec F S512x512 .f32 := k0_pay4 k0_pay2 k0_pay3

section Args

variable (arg0 : Memref sig .tc .vmem S2x512x768 .bf16) (harg0 : arg0.IsWhole) (arg1 : Memref sig .tc .vmem S2x512x768 .bf16) (harg1 : arg1.IsWhole)
  (arg2 : Memref sig .tc .vmem S64x2x64x512 .bf16) (harg2 : arg2.IsWhole) (arg3 : Memref sig .tc .vmem S64x2x65x512 .bf16) (harg3 : arg3.IsWhole)
  (arg4 : Memref sig .tc .vmem S2x512x768 .f32) (harg4 : arg4.IsWhole)
  (arg5 : Memref sig .tc .vmem S5x2x512x768 .bf16) (harg5 : arg5.IsWhole) (arg6 : Memref sig .tc .vmem S5x2x512x768 .bf16) (harg6 : arg6.IsWhole)
  (arg7 : Memref sig .tc .vmem S512x1024 .bf16) (harg7 : arg7.IsWhole) (arg8 : Memref sig .tc .vmem S512x1024 .bf16) (harg8 : arg8.IsWhole)
  (arg9 : DmaSems sig S4) (arg10 : DmaSems sig S5) (arg11 : DmaSems sig S4) (arg12 : DmaSems sig S5)

/-- One head on one batch row: its queries, keys and values read, its part of the context stored. -/
def head (o : Offs) (h : Fin 8) (b : Fin 2) (k : P F) : P F :=
  .op (.load arg7 (hRect h b).toLoadRect (View.loadsAt_vmem h_S64x512)) fun (q : Vec F S64x512 .bf16) =>
  .op (.load arg2 (Rect.unit (s := S64x2x64x512) (o.ko h b) S1x1x64x512.size (o.ki h b)).toLoadRect (View.loadsAt_vmem h_S1x1x64x512)) fun (kt : Vec F S1x1x64x512 .bf16) =>
  .op (.load arg3 (Rect.unit (s := S64x2x65x512) (o.vo h b) S1x1x65x512.size (o.vi h b)).toLoadRect (View.loadsAt_vmem h_S1x1x65x512)) fun (vt : Vec F S1x1x65x512 .bf16) =>
  .op (.load arg8 (hRect h b).toLoadRect (View.loadsAt_vmem h_S64x512)) fun _ =>
  .op (.store arg8 (hRect h b) (k0_pay7 bias q kt vt) Finset.univ
    (View.stores_vmem h_S64x512 (harg8.storeExact_slice rfl _ (hRect_packed h b)) (fun _ => rfl)) (.inl rfl)) fun _ => k

/-- The heads of a list, in order. -/
def heads (o : Offs) : List (Fin 8 × Fin 2) → P F → P F
  | [], k => k
  | hb :: l, k => head arg2 arg3 arg7 arg8 harg8 o hb.1 hb.2 (heads o l k)

/-- The sixteen heads of a group in the order the body takes them. -/
abbrev order : List (Fin 8 × Fin 2) :=
  [(0, 0), (0, 1), (1, 0), (1, 1), (2, 0), (2, 1), (3, 0), (3, 1), (4, 0), (4, 1), (5, 0), (5, 1), (6, 0), (6, 1), (7, 0), (7, 1)]

/-- A group: the queries projected, the sixteen heads, the context read back. -/
def group (o : Offs) (w : FVec F S512x768 .bf16) (k : Vec F S512x1024 .bf16 → P F) : P F :=
  .op (.load arg0 (Rect.unit (s := S2x512x768) ![0, 0, 0] S2x512x768.size inb_S2x512x768_S2x512x768_0_0_0).toLoadRect (View.loadsAt_vmem h_S2x512x768)) fun (x : Vec F S2x512x768 .bf16) =>
  .op (.load arg7 (Rect.unit (s := S512x1024) ![0, 0] S512x1024.size inb_S512x1024_S512x1024_0_0).toLoadRect (View.loadsAt_vmem h_S512x1024)) fun _ =>
  .op (.store arg7 (Rect.unit (s := S512x1024) ![0, 0] S512x1024.size inb_S512x1024_S512x1024_0_0) (qPay w x) Finset.univ
    (View.stores_vmem h_S512x1024 (harg7.storeExact_slice rfl _ packedbf16_S512x1024_S512x1024_0_0) (fun _ => rfl)) (.inl rfl)) fun _ =>
  heads arg2 arg3 arg7 arg8 harg8 o order
  (.op (.load arg8 (Rect.unit (s := S512x1024) ![0, 0] S512x1024.size inb_S512x1024_S512x1024_0_0).toLoadRect (View.loadsAt_vmem h_S512x1024)) k)

/-- The result's two batch rows. -/
abbrev oRect0 : Rect S2x512x768 := Rect.unit (s := S2x512x768) ![0, 0, 0] S1x512x768.size inb_S2x512x768_S1x512x768_0_0_0
abbrev oRect1 : Rect S2x512x768 := Rect.unit (s := S2x512x768) ![1, 0, 0] S1x512x768.size inb_S2x512x768_S1x512x768_1_0_0

/-- The first block's part stored as the result. -/
def put (wo : FVec F S512x768 .bf16) (cx : Vec F S512x1024 .bf16) (k : P F) : P F :=
  .op (.load arg4 oRect0.toLoadRect (View.loadsAt_vmem h_S1x512x768)) fun _ =>
  .op (.store arg4 oRect0 (k0_pay34 wo cx) Finset.univ (View.stores_vmem_bits_univ h_S1x512x768 rfl) (.inl rfl)) fun _ =>
  .op (.load arg4 oRect1.toLoadRect (View.loadsAt_vmem h_S1x512x768)) fun _ =>
  .op (.store arg4 oRect1 (k0_pay35 wo cx) Finset.univ (View.stores_vmem_bits_univ h_S1x512x768 rfl) (.inl rfl)) fun _ => k

/-- A later block's part added to the result. -/
def add (wo : FVec F S512x768 .bf16) (cx : Vec F S512x1024 .bf16) (k : P F) : P F :=
  .op (.load arg4 oRect0.toLoadRect (View.loadsAt_vmem h_S1x512x768)) fun (o0 : Vec F S1x512x768 .f32) =>
  .op (.load arg4 oRect0.toLoadRect (View.loadsAt_vmem h_S1x512x768)) fun _ =>
  .op (.store arg4 oRect0 (k0_pay63 wo cx o0) Finset.univ (View.stores_vmem_bits_univ h_S1x512x768 rfl) (.inl rfl)) fun _ =>
  .op (.load arg4 oRect1.toLoadRect (View.loadsAt_vmem h_S1x512x768)) fun (o1 : Vec F S1x512x768 .f32) =>
  .op (.load arg4 oRect1.toLoadRect (View.loadsAt_vmem h_S1x512x768)) fun _ =>
  .op (.store arg4 oRect1 (k0_pay64 wo cx o1) Finset.univ (View.stores_vmem_bits_univ h_S1x512x768 rfl) (.inl rfl)) fun _ => k

/-- A slot of a landing buffer: slab `k`, both weights. -/
abbrev sOff (k : Fin 5) : Fin 4 → Nat := ![k.val, 0, 0, 0]
theorem sOff_inb : ∀ (k : Fin 5), ∀ a, sOff k a + S1x2x512x768.size a ≤ S5x2x512x768.size a := by decide
theorem sRect_words : ∀ (k : Fin 5), (Rect.unit (s := S5x2x512x768) (sOff k) S1x2x512x768.size (sOff_inb k)).WholeWords (EltTy.packing .bf16) := by decide
/-- One weight of a slot. -/
abbrev tOff (k : Fin 5) (g : Fin 2) : Fin 4 → Nat := ![k.val, g.val, 0, 0]
theorem tOff_inb : ∀ (k : Fin 5) (g : Fin 2), ∀ a, tOff k g a + S1x1x512x768.size a ≤ S5x2x512x768.size a := by decide
theorem tRect_words : ∀ (k : Fin 5) (g : Fin 2), (Rect.unit (s := S5x2x512x768) (tOff k g) S1x1x512x768.size (tOff_inb k g)).WholeWords (EltTy.packing .bf16) := by decide
abbrev tRect (k : Fin 5) (g : Fin 2) : Rect S5x2x512x768 := Rect.unit (s := S5x2x512x768) (tOff k g) S1x1x512x768.size (tOff_inb k g)

/-- Slot `k` of a landing buffer as a memref of a block of weights. -/
abbrev slot (m : Memref sig .tc .vmem S5x2x512x768 .bf16) (k : Fin 5) : Memref sig .tc .vmem S2x512x768 .bf16 :=
  (m.slice (Rect.unit (s := S5x2x512x768) (sOff k) S1x2x512x768.size (sOff_inb k)) (fun _ => rfl)).squeeze S2x512x768 squeezes_S1x2x512x768_S2x512x768
/-- One weight of slot `k`. -/
abbrev half (m : Memref sig .tc .vmem S5x2x512x768 .bf16) (k : Fin 5) (g : Fin 2) : Memref sig .tc .vmem S512x768 .bf16 :=
  (m.slice (tRect k g) (fun _ => rfl)).squeeze S512x768 squeezes_S1x1x512x768_S512x768

omit [FloatOps F] [Named F] in
theorem slot_exact {m : Memref sig .tc .vmem S5x2x512x768 .bf16} (h : m.IsWhole) (k : Fin 5) : (slot m k).view.WordExact :=
  (h.wordExact_slice rfl _ (sRect_words k)).reshape _ _
omit [FloatOps F] [Named F] in
theorem half_exact {m : Memref sig .tc .vmem S5x2x512x768 .bf16} (h : m.IsWhole) (k : Fin 5) (g : Fin 2) : (half m k g).view.WordExact :=
  (h.wordExact_slice rfl _ (tRect_words k g)).reshape _ _

theorem s4_inb : ∀ (r : Fin 4), ∀ a, (![r.val] : Fin 1 → Nat) a + S1.size a ≤ S4.size a := by decide
theorem s5_inb : ∀ (r : Fin 5), ∀ a, (![r.val] : Fin 1 → Nat) a + S1.size a ≤ S5.size a := by decide
/-- A semaphore of an array of four. -/
abbrev sem4 (s : DmaSems sig S4) (r : Fin 4) : DmaSem sig :=
  ((s.slice (Rect.unit (s := S4) ![r.val] S1.size (s4_inb r))).squeeze S_ squeezes_S1_S_).sem
/-- A semaphore of an array of five. -/
abbrev sem5 (s : DmaSems sig S5) (r : Fin 5) : DmaSem sig :=
  ((s.slice (Rect.unit (s := S5) ![r.val] S1.size (s5_inb r))).squeeze S_ squeezes_S1_S_).sem

/-- The four waits that end a round whose transfers went between `srcR` and `dstR`, and `srcL` and `dstL`. -/
def waits {s : Shape} (srcR dstR srcL dstL : Memref sig .tc .vmem s .bf16) (eR : srcR.view.WordExact) (eR' : dstR.view.WordExact)
    (eL : srcL.view.WordExact) (eL' : dstL.view.WordExact) (r : Fin 4) (k : P F) : P F :=
  .op (.waitDma2 (sem4 arg9 r) dstR srcR eR' eR) fun _ =>
  .op (.waitDma2 (sem5 arg10 r.succ) srcR dstR eR eR') fun _ =>
  .op (.waitDma2 (sem4 arg11 r) dstL srcL eL' eL) fun _ =>
  .op (.waitDma2 (sem5 arg12 r.succ) srcL dstL eL eL') fun _ => k

/-- A transfer to `d`, from `src` to `dst` there. -/
def send {s : Shape} (d : Dev nD) (src dst : Memref sig .tc .vmem s .bf16) (e : src.view.WordExact) (e' : dst.view.WordExact)
    (s4 s5 : DmaSem sig) (k : P F) : P F :=
  .op (.enqueueDma src (.remote (Dev.tc d) dst (.dma s4)) (.dma s5) e e' ⟨⟨rfl, Or.inl rfl⟩, trivial⟩) fun _ => k

/-- One weight of a slot, read. -/
def readHalf (m : Memref sig .tc .vmem S5x2x512x768 .bf16) (k : Fin 5) (g : Fin 2) (c : Vec F S1x1x512x768 .bf16 → P F) : P F :=
  .op (.load m (tRect k g).toLoadRect (View.loadsAt_vmem h_S1x1x512x768)) c

/-- A later group: its two weights read from slots, the group, its part added. -/
def later (m0 m1 : Memref sig .tc .vmem S5x2x512x768 .bf16) (s : Fin 5) (o : Offs) (k : P F) : P F :=
  readHalf m0 s 0 fun w => readHalf m1 s 1 fun wo =>
  group arg0 arg2 arg3 arg7 harg7 arg8 harg8 o (shapeCast S512x768 w shapeCasts_S1x1x512x768_S512x768) fun cx =>
  add arg4 (shapeCast S512x768 wo shapeCasts_S1x1x512x768_S512x768) cx k

/-- The first group: the device's own weights. -/
def first (o : Offs) (k : P F) : P F :=
  .op (.load arg1 oRect0.toLoadRect (View.loadsAt_vmem h_S1x512x768)) fun (w : Vec F S1x512x768 .bf16) =>
  .op (.load arg1 oRect1.toLoadRect (View.loadsAt_vmem h_S1x512x768)) fun (wo : Vec F S1x512x768 .bf16) =>
  group arg0 arg2 arg3 arg7 harg7 arg8 harg8 o (shapeCast S512x768 w shapeCasts_S1x512x768_S512x768) fun cx =>
  put arg4 (shapeCast S512x768 wo shapeCasts_S1x512x768_S512x768) cx k

/-- The body on device `d`, after the handshake. -/
def rounds (d : Dev nD) : P F :=
  send ⟨k0_dev3 d, k0_dev3_lt d⟩ arg1 (slot arg5 1) harg1.wordExact (slot_exact harg5 1) (sem4 arg9 0) (sem5 arg10 1) <|
  send ⟨k0_dev4 d, k0_dev4_lt d⟩ arg1 (slot arg6 1) harg1.wordExact (slot_exact harg6 1) (sem4 arg11 0) (sem5 arg12 1) <|
  first arg0 arg1 arg2 arg3 arg4 arg7 harg7 arg8 harg8 (offs0 d) <|
  waits arg9 arg10 arg11 arg12 arg1 (slot arg5 1) arg1 (slot arg6 1) harg1.wordExact (slot_exact harg5 1) harg1.wordExact (slot_exact harg6 1) 0 <|
  send ⟨k0_dev5 d, k0_dev5_lt d⟩ (slot arg5 1) (slot arg5 2) (slot_exact harg5 1) (slot_exact harg5 2) (sem4 arg9 1) (sem5 arg10 2) <|
  send ⟨k0_dev6 d, k0_dev6_lt d⟩ (slot arg6 1) (slot arg6 2) (slot_exact harg6 1) (slot_exact harg6 2) (sem4 arg11 1) (sem5 arg12 2) <|
  later arg0 arg2 arg3 arg4 arg7 harg7 arg8 harg8 arg5 arg5 1 (offsR d 0) <|
  later arg0 arg2 arg3 arg4 arg7 harg7 arg8 harg8 arg6 arg6 1 (offsL d 0) <|
  waits arg9 arg10 arg11 arg12 (slot arg5 1) (slot arg5 2) (slot arg6 1) (slot arg6 2) (slot_exact harg5 1) (slot_exact harg5 2) (slot_exact harg6 1) (slot_exact harg6 2) 1 <|
  send ⟨k0_dev7 d, k0_dev7_lt d⟩ (slot arg5 2) (slot arg5 3) (slot_exact harg5 2) (slot_exact harg5 3) (sem4 arg9 2) (sem5 arg10 3) <|
  send ⟨k0_dev8 d, k0_dev8_lt d⟩ (slot arg6 2) (slot arg6 3) (slot_exact harg6 2) (slot_exact harg6 3) (sem4 arg11 2) (sem5 arg12 3) <|
  later arg0 arg2 arg3 arg4 arg7 harg7 arg8 harg8 arg5 arg5 2 (offsR d 1) <|
  later arg0 arg2 arg3 arg4 arg7 harg7 arg8 harg8 arg6 arg6 2 (offsL d 1) <|
  waits arg9 arg10 arg11 arg12 (slot arg5 2) (slot arg5 3) (slot arg6 2) (slot arg6 3) (slot_exact harg5 2) (slot_exact harg5 3) (slot_exact harg6 2) (slot_exact harg6 3) 2 <|
  send ⟨k0_dev9 d, k0_dev9_lt d⟩ (half arg5 3 0) (half arg5 4 0) (half_exact harg5 3 0) (half_exact harg5 4 0) (sem4 arg9 3) (sem5 arg10 4) <|
  send ⟨k0_dev10 d, k0_dev10_lt d⟩ (half arg6 3 1) (half arg6 4 1) (half_exact harg6 3 1) (half_exact harg6 4 1) (sem4 arg11 3) (sem5 arg12 4) <|
  later arg0 arg2 arg3 arg4 arg7 harg7 arg8 harg8 arg5 arg5 3 (offsR d 2) <|
  later arg0 arg2 arg3 arg4 arg7 harg7 arg8 harg8 arg6 arg6 3 (offsL d 2) <|
  waits arg9 arg10 arg11 arg12 (half arg5 3 0) (half arg5 4 0) (half arg6 3 1) (half arg6 4 1) (half_exact harg5 3 0) (half_exact harg5 4 0) (half_exact harg6 3 1) (half_exact harg6 4 1) 3 <|
  later arg0 arg2 arg3 arg4 arg7 harg7 arg8 harg8 arg5 arg6 4 (offsL d 3) <|
  .ret ⟨⟩

/-- The barrier semaphore. -/
abbrev barS : Sem sig := (SemArray.scalar (sig.barrier 0 rfl) : Sems sig S_).sem

/-- The whole body: the device's name, the handshake with both neighbours, the rounds. -/
def whole : P F :=
  .op .deviceId fun d =>
  (semSignalWord (⟨k0_dev1 d, k0_dev1_lt d⟩ : Dev nD) barS 1#32).bind fun _ =>
  (semSignalWord (⟨k0_dev2 d, k0_dev2_lt d⟩ : Dev nD) barS 1#32).bind fun _ =>
  (semWaitWord barS 2#32).bind fun _ =>
  rounds arg0 arg1 harg1 arg2 arg3 arg4 arg5 harg5 arg6 harg6 arg7 harg7 arg8 harg8 arg9 arg10 arg11 arg12 d

set_option maxRecDepth 1000000 in
set_option maxHeartbeats 0 in
/-- The printed body is this program. -/
theorem body_eq :
    cc0_body (F := F) arg0 harg0 arg1 harg1 arg2 harg2 arg3 harg3 arg4 harg4 arg5 harg5 arg6 harg6 arg7 harg7 arg8 harg8 arg9 arg10 arg11 arg12
      = whole arg0 arg1 harg1 arg2 arg3 arg4 arg5 harg5 arg6 harg6 arg7 harg7 arg8 harg8 arg9 arg10 arg11 arg12 := by
  rfl

end Args

end Cert.KernelIdeal.Body

end
-- ==== Proof.Group.lean ====
module

public import proofs.«01_k».proof.Proof.Body
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.Value
public import Idealize.ShloMosaic.Lib.ValueLayout
public import Idealize.ShloMosaic.Lib.Tactic

/-!
# What one group of heads does

A group projects its queries, runs its sixteen heads, and leaves the context of its block; the block's
part of the result is then stored (`put`) or added (`add`).  Each is stated once, over the contents of the
buffers it reads, for any float type.
-/

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- The rounds' resources, two duties a cell at most. -/
abbrev UB : Type := URounds (GSem nD τ sig) Bool
/-- The staging's resources beside the rounds'. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- No loop of the kernel is counted. -/
abbrev 𝒱₀ : Variants := Variants.none

/-- The kernel's core on device `c` runs `p` and ends in `Q`. -/
abbrev WP (c : Dev nD) (p : P F) (Q : PUnit → sProp 𝕄) : sProp 𝕄 :=
  wp Idealize.ShloMosaic.frame (wpE (defs₀ (F := F)) 𝒱₀ (c : Thread nD τ) none) Set.univ p Q

/-- Device `c` holds the whole buffer `b` at contents `f`. -/
abbrev pt (c : Dev nD) (b : Ref sig .tc) (f : b.ty.Contents (Elt F)) : sProp 𝕄 :=
  (Memref.whole b).view.loc (c : Thread nD τ) ↦{fullShare} f

/-! ## Stores into a rectangle of a whole buffer -/

omit [FloatOps F] [Named F] in
theorem write_rect_in (b : Ref sig .tc) (r : Rect b.ty.shape) (f : b.ty.Contents (Elt F)) (w : r.shape.Idx → Elt F b.ty.elt)
    (j : r.shape.Idx) : ((Memref.whole b).access r : View sig .tc _ _ _).write (Elt F) f w Finset.univ (r.emb j) = w j :=
  View.write_emb_of_mem (v := ((Memref.whole b).access r : View sig .tc _ _ _)) (Val := Elt F) f w (Finset.mem_univ j)

omit [FloatOps F] [Named F] in
theorem write_rect_out (b : Ref sig .tc) (r : Rect b.ty.shape) (f : b.ty.Contents (Elt F)) (w : r.shape.Idx → Elt F b.ty.elt)
    (i : b.ty.shape.Idx) (h : i ∉ r.set) : ((Memref.whole b).access r : View sig .tc _ _ _).write (Elt F) f w Finset.univ i = f i :=
  View.write_of_not_mem (v := ((Memref.whole b).access r : View sig .tc _ _ _)) (Val := Elt F) f w Finset.univ
    (by rw [View.setOn_univ]; rw [show ((Memref.whole b).access r : View sig .tc _ _ _).set = r.set from View.set_slice_whole b r]; exact h)

/-! ## The context of a block -/

/-- A head's queries. -/
def qAt (q : Vec F S512x1024 .bf16) (h : Fin 8) (b : Fin 2) : Vec F S64x512 .bf16 := fun j => q ((hRect h b).emb j)
/-- A head's keys. -/
def kAt (o : Offs) (K : Vec F S64x2x64x512 .bf16) (h : Fin 8) (b : Fin 2) : Vec F S1x1x64x512 .bf16 :=
  fun j => K ((Rect.unit (s := S64x2x64x512) (o.ko h b) S1x1x64x512.size (o.ki h b)).emb j)
/-- A head's values, and the row of ones below them. -/
def vAt (o : Offs) (V : Vec F S64x2x65x512 .bf16) (h : Fin 8) (b : Fin 2) : Vec F S1x1x65x512 .bf16 :=
  fun j => V ((Rect.unit (s := S64x2x65x512) (o.vo h b) S1x1x65x512.size (o.vi h b)).emb j)

/-- What a head stores. -/
def headVal (o : Offs) (q : Vec F S512x1024 .bf16) (K : Vec F S64x2x64x512 .bf16) (V : Vec F S64x2x65x512 .bf16) (h : Fin 8) (b : Fin 2) :
    FVec F S64x512 .bf16 := k0_pay7 bias (qAt q h b) (kAt o K h b) (vAt o V h b)

/-- The head an element of the context belongs to, its batch row, and where in the head's rectangle it lies. -/
def hOf (i : S512x1024.Idx) : Fin 8 := ⟨(i 0).val / 64, Nat.div_lt_of_lt_mul (i 0).isLt⟩
def bOf (i : S512x1024.Idx) : Fin 2 := ⟨(i 1).val / 512, Nat.div_lt_of_lt_mul (i 1).isLt⟩
def jOf (i : S512x1024.Idx) : S64x512.Idx := fun
  | ⟨0, _⟩ => (⟨(i 0).val % 64, Nat.mod_lt _ (by decide)⟩ : Fin 64)
  | ⟨1, _⟩ => (⟨(i 1).val % 512, Nat.mod_lt _ (by decide)⟩ : Fin 512)

theorem emb_jOf (i : S512x1024.Idx) : (hRect (hOf i) (bOf i)).emb (jOf i) = i := by
  funext a; apply Fin.ext
  match a with
  | ⟨0, _⟩ => show 64 * ((i 0).val / 64) + 1 * ((i 0).val % 64) = (i 0).val; omega
  | ⟨1, _⟩ => show 512 * ((i 1).val / 512) + 1 * ((i 1).val % 512) = (i 1).val; omega

theorem of_emb (h : Fin 8) (b : Fin 2) (j : S64x512.Idx) :
    hOf ((hRect h b).emb j) = h ∧ bOf ((hRect h b).emb j) = b ∧ jOf ((hRect h b).emb j) = j := by
  have h0 : (j 0).val < 64 := (j 0).isLt
  have h1 : (j 1).val < 512 := (j 1).isLt
  refine ⟨Fin.ext ?_, Fin.ext ?_, funext fun a => Fin.ext ?_⟩
  · show (64 * h.val + 1 * (j 0).val) / 64 = h.val; omega
  · show (512 * b.val + 1 * (j 1).val) / 512 = b.val; omega
  · match a with
    | ⟨0, _⟩ => show (64 * h.val + 1 * (j 0).val) % 64 = (j 0).val; omega
    | ⟨1, _⟩ => show (512 * b.val + 1 * (j 1).val) % 512 = (j 1).val; omega

/-- The context of a block: each element as its head stored it. -/
def ctxOf (o : Offs) (q : Vec F S512x1024 .bf16) (K : Vec F S64x2x64x512 .bf16) (V : Vec F S64x2x65x512 .bf16) : Vec F S512x1024 .bf16 :=
  fun i => headVal o q K V (hOf i) (bOf i) (jOf i)

theorem ctxOf_emb (o : Offs) (q : Vec F S512x1024 .bf16) (K : Vec F S64x2x64x512 .bf16) (V : Vec F S64x2x65x512 .bf16)
    (h : Fin 8) (b : Fin 2) (j : S64x512.Idx) : ctxOf o q K V ((hRect h b).emb j) = headVal o q K V h b j := by
  obtain ⟨e1, e2, e3⟩ := of_emb h b j
  unfold ctxOf; rw [e1, e2, e3]

abbrev a0 : Memref sig .tc .vmem S2x512x768 .bf16 := Memref.whole cc0_stg0_0
abbrev a1 : Memref sig .tc .vmem S2x512x768 .bf16 := Memref.whole cc0_stg1_0
abbrev a2 : Memref sig .tc .vmem S64x2x64x512 .bf16 := Memref.whole cc0_stg2_0
abbrev a3 : Memref sig .tc .vmem S64x2x65x512 .bf16 := Memref.whole cc0_stg3_0
abbrev a4 : Memref sig .tc .vmem S2x512x768 .f32 := Memref.whole cc0_stg4_0
abbrev a5 : Memref sig .tc .vmem S5x2x512x768 .bf16 := Memref.whole cc0_scratch0
abbrev a6 : Memref sig .tc .vmem S5x2x512x768 .bf16 := Memref.whole cc0_scratch1
abbrev a7 : Memref sig .tc .vmem S512x1024 .bf16 := Memref.whole cc0_scratch2
abbrev a8 : Memref sig .tc .vmem S512x1024 .bf16 := Memref.whole cc0_scratch3
theorem w5 : a5.IsWhole := Memref.isWhole_whole _
theorem w6 : a6.IsWhole := Memref.isWhole_whole _
theorem w7 : a7.IsWhole := Memref.isWhole_whole _
theorem w8 : a8.IsWhole := Memref.isWhole_whole _

section Heads

variable (c : Dev nD) (o : Offs) (q : Vec F S512x1024 .bf16) (K : Vec F S64x2x64x512 .bf16) (V : Vec F S64x2x65x512 .bf16)

/-- One head: the context's buffer is overwritten on the head's rectangle. -/
theorem head_wp (Q : PUnit → sProp 𝕄) (h : Fin 8) (b : Fin 2) (f : Vec F S512x1024 .bf16) (k : P F) :
    iprop(pt c cc0_scratch2 q ∗ pt c cc0_stg2_0 K ∗ pt c cc0_stg3_0 V ∗ pt c cc0_scratch3 f)
      ⊢ iprop(((pt c cc0_scratch2 q ∗ pt c cc0_stg2_0 K ∗ pt c cc0_stg3_0 V
            ∗ pt c cc0_scratch3 ((a8.access (hRect h b) : View sig .tc _ _ _).write (Elt F) f (headVal o q K V h b) Finset.univ)) -∗ WP c k Q)
          -∗ WP c (head a2 a3 a7 a8 w8 o h b k) Q) := by
  unfold head
  iintro ⟨Hq, HK, HV, Hc⟩ Hk
  iapply (wp_load 𝒱₀ (c : Thread nD τ) none Set.univ (m := a7) (S := Finset.univ) (Finset.subset_univ _)) $$ Hq
  iintro Hq
  iapply (wp_load 𝒱₀ (c : Thread nD τ) none Set.univ (m := a2) (S := Finset.univ) (Finset.subset_univ _)) $$ HK
  iintro HK
  iapply (wp_load 𝒱₀ (c : Thread nD τ) none Set.univ (m := a3) (S := Finset.univ) (Finset.subset_univ _)) $$ HV
  iintro HV
  iapply (wp_load 𝒱₀ (c : Thread nD τ) none Set.univ (m := a8) (S := Finset.univ) (Finset.subset_univ _)) $$ Hc
  iintro Hc
  iapply (wp_store 𝒱₀ (c : Thread nD τ) none Set.univ (m := a8) (r := hRect h b) (Mk := Finset.univ) (S := Finset.univ) (Finset.subset_univ _)) $$ Hc
  iintro Hc
  iapply Hk
  isplitl [Hq]; · iexact Hq
  isplitl [HK]; · iexact HK
  isplitl [HV]; · iexact HV
  iexact Hc

/-- Heads in a row: on the rectangles of the heads taken the buffer holds the context. -/
theorem heads_wp (Q : PUnit → sProp 𝕄) : ∀ (l done : List (Fin 8 × Fin 2)) (f : Vec F S512x1024 .bf16)
    (hf : ∀ hb ∈ done, ∀ j, f ((hRect hb.1 hb.2).emb j) = headVal o q K V hb.1 hb.2 j) (k : P F),
    iprop(pt c cc0_scratch2 q ∗ pt c cc0_stg2_0 K ∗ pt c cc0_stg3_0 V ∗ pt c cc0_scratch3 f)
      ⊢ iprop(((pt c cc0_scratch2 q ∗ pt c cc0_stg2_0 K ∗ pt c cc0_stg3_0 V
            ∗ ∃ g : Vec F S512x1024 .bf16, ⌜∀ hb, hb ∈ l ∨ hb ∈ done → ∀ j, g ((hRect hb.1 hb.2).emb j) = headVal o q K V hb.1 hb.2 j⌝
              ∗ pt c cc0_scratch3 g) -∗ WP c k Q)
          -∗ WP c (heads a2 a3 a7 a8 w8 o l k) Q)
  | [], done, f, hf, k => by
    iintro ⟨Hq, HK, HV, Hc⟩ Hk
    iapply Hk
    isplitl [Hq]; · iexact Hq
    isplitl [HK]; · iexact HK
    isplitl [HV]; · iexact HV
    iexists f
    isplitr
    · ipureintro; intro hb h; exact hf hb (h.resolve_left (by simp))
    iexact Hc
  | hb :: l, done, f, hf, k => by
    iintro ⟨Hq, HK, HV, Hc⟩ Hk
    iapply (head_wp c o q K V Q hb.1 hb.2 f (heads a2 a3 a7 a8 w8 o l k)) $$ [Hq HK HV Hc]
    · isplitl [Hq]; · iexact Hq
      isplitl [HK]; · iexact HK
      isplitl [HV]; · iexact HV
      iexact Hc
    iintro ⟨Hq, HK, HV, Hc⟩
    iapply (heads_wp Q l (hb :: done)
      ((a8.access (hRect hb.1 hb.2) : View sig .tc _ _ _).write (Elt F) f (headVal o q K V hb.1 hb.2) Finset.univ) (by
      intro hb' hm j
      by_cases e : hb' = hb
      · subst e; exact write_rect_in cc0_scratch3 _ _ _ j
      · have hd := hf hb' ((List.mem_cons.mp hm).resolve_left e) j
        rw [← hd]
        refine write_rect_out cc0_scratch3 _ _ _ _ fun hmem => e ?_
        rw [← Rect.map_emb_univ] at hmem
        obtain ⟨j', -, hj⟩ := Finset.mem_map.mp hmem
        have e1 := of_emb hb'.1 hb'.2 j
        have e2 := of_emb hb.1 hb.2 j'
        rw [hj] at e2
        exact Prod.ext (e1.1.symm.trans e2.1) (e1.2.1.symm.trans e2.2.1)) k) $$ [Hq HK HV Hc]
    · isplitl [Hq]; · iexact Hq
      isplitl [HK]; · iexact HK
      isplitl [HV]; · iexact HV
      iexact Hc
    iintro ⟨Hq, HK, HV, ⟨%g, %hg, Hc⟩⟩
    iapply Hk
    isplitl [Hq]; · iexact Hq
    isplitl [HK]; · iexact HK
    isplitl [HV]; · iexact HV
    iexists g
    isplitr
    · ipureintro
      intro hb' h
      refine hg hb' ?_
      rcases h with h | h
      · rcases List.mem_cons.mp h with h | h
        · exact .inr (h ▸ List.mem_cons_self)
        · exact .inl h
      · exact .inr (List.mem_cons_of_mem _ h)
    iexact Hc

theorem order_all : ∀ hb : Fin 8 × Fin 2, hb ∈ order := by decide

/-- What a group reads and its scratch: the rows of `x`, the keys, the values; the queries and the context at any contents. -/
def R (X : Vec F S2x512x768 .bf16) : sProp 𝕄 :=
  iprop(pt c cc0_stg0_0 X ∗ pt c cc0_stg2_0 K ∗ pt c cc0_stg3_0 V ∗ (∃ f, pt c cc0_scratch2 f) ∗ ∃ f, pt c cc0_scratch3 f)

/-- A group: the context of its block is read at the end. -/
theorem group_wp (Q : PUnit → sProp 𝕄) (X : Vec F S2x512x768 .bf16) (w : FVec F S512x768 .bf16) (k : Vec F S512x1024 .bf16 → P F) :
    R c K V X ⊢ iprop((R c K V X -∗ WP c (k (ctxOf o (qPay w X) K V)) Q) -∗ WP c (group a0 a2 a3 a7 w7 a8 w8 o w k) Q) := by
  unfold R group
  iintro ⟨HX, HK, HV, ⟨%f7, H7⟩, ⟨%f8, H8⟩⟩ Hk
  iapply (wp_load 𝒱₀ (c : Thread nD τ) none Set.univ (m := a0) (S := Finset.univ) (Finset.subset_univ _)) $$ HX
  iintro HX
  rw [show a0.view.readAt (Elt F) (Rect.unit (s := S2x512x768) ![0, 0, 0] S2x512x768.size inb_S2x512x768_S2x512x768_0_0_0).toLoadRect X = X from
    Memref.readAt_unit_zero (Elt F) cc0_stg0_0 (by decide) _ X]
  iapply (wp_load 𝒱₀ (c : Thread nD τ) none Set.univ (m := a7) (S := Finset.univ) (Finset.subset_univ _)) $$ H7
  iintro H7
  iapply (wp_store 𝒱₀ (c : Thread nD τ) none Set.univ (m := a7)
    (r := Rect.unit (s := S512x1024) ![0, 0] S512x1024.size inb_S512x1024_S512x1024_0_0) (Mk := Finset.univ) (S := Finset.univ) (Finset.subset_univ _)) $$ H7
  rw [show ((a7.access (Rect.unit (s := S512x1024) ![0, 0] S512x1024.size inb_S512x1024_S512x1024_0_0) : View sig .tc _ _ _).write (Elt F) f7 (qPay w X) Finset.univ)
    = qPay w X from Memref.write_access_unit_zero_univ (Elt F) cc0_scratch2 (by decide) _ f7 (qPay w X)]
  iintro H7
  iapply (heads_wp c o (qPay w X) K V Q order [] f8 (by simp) _) $$ [H7 HK HV H8]
  · isplitl [H7]; · iexact H7
    isplitl [HK]; · iexact HK
    isplitl [HV]; · iexact HV
    iexact H8
  iintro ⟨H7, HK, HV, ⟨%g, %hg, H8⟩⟩
  obtain rfl : g = ctxOf o (qPay w X) K V := funext fun i => by
    have e := hg (hOf i, bOf i) (.inl (order_all _)) (jOf i)
    rw [emb_jOf] at e; exact e
  iapply (wp_load 𝒱₀ (c : Thread nD τ) none Set.univ (m := a8) (S := Finset.univ) (Finset.subset_univ _)) $$ H8
  iintro H8
  rw [show a8.view.readAt (Elt F) (Rect.unit (s := S512x1024) ![0, 0] S512x1024.size inb_S512x1024_S512x1024_0_0).toLoadRect (ctxOf o (qPay w X) K V) = ctxOf o (qPay w X) K V from
    Memref.readAt_unit_zero (Elt F) cc0_scratch3 (by decide) _ _]
  iapply Hk
  isplitl [HX]; · iexact HX
  isplitl [HK]; · iexact HK
  isplitl [HV]; · iexact HV
  isplitl [H7]; · iexists _; iexact H7
  iexists _; iexact H8

end Heads

/-! ## The result's two batch rows -/

/-- An element within its batch row. -/
def rowOf (i : S2x512x768.Idx) : S1x512x768.Idx := fun
  | ⟨0, _⟩ => (0 : Fin 1)
  | ⟨1, _⟩ => (i 1 : Fin 512)
  | ⟨2, _⟩ => (i 2 : Fin 768)

/-- Two rows as one vector. -/
def rows (u v : Vec F S1x512x768 .f32) : Vec F S2x512x768 .f32 := fun i => if (i 0).val = 0 then u (rowOf i) else v (rowOf i)

/-- A vector's rows. -/
def row0 {e : EltTy} (f : Vec F S2x512x768 e) : Vec F S1x512x768 e := fun j => f (oRect0.emb j)
def row1 {e : EltTy} (f : Vec F S2x512x768 e) : Vec F S1x512x768 e := fun j => f (oRect1.emb j)

theorem emb_row0 (i : S2x512x768.Idx) (h : (i 0).val = 0) : oRect0.emb (rowOf i) = i := by
  funext a; apply Fin.ext
  match a with
  | ⟨0, _⟩ => show 0 + 1 * 0 = (i 0).val; omega
  | ⟨1, _⟩ => show 0 + 1 * (i 1).val = (i 1).val; omega
  | ⟨2, _⟩ => show 0 + 1 * (i 2).val = (i 2).val; omega

theorem emb_row1 (i : S2x512x768.Idx) (h : (i 0).val ≠ 0) : oRect1.emb (rowOf i) = i := by
  have h0 : (i 0).val < 2 := (i 0).isLt
  funext a; apply Fin.ext
  match a with
  | ⟨0, _⟩ => show 1 + 1 * 0 = (i 0).val; omega
  | ⟨1, _⟩ => show 0 + 1 * (i 1).val = (i 1).val; omega
  | ⟨2, _⟩ => show 0 + 1 * (i 2).val = (i 2).val; omega

theorem oRect1_not (j : S1x512x768.Idx) : oRect1.emb j ∉ oRect0.set := fun h => by
  have h0 := (Rect.mem_set_unit.mp h ⟨0, by decide⟩).2
  have : 1 + 1 * (j 0).val < 0 + 1 := h0
  omega

theorem oRect0_not (i : S2x512x768.Idx) (h : (i 0).val = 0) : i ∉ oRect1.set := fun hm => by
  have h0 := (Rect.mem_set_unit.mp hm ⟨0, by decide⟩).1
  have : 1 ≤ (i 0).val := h0
  omega

theorem write_rows (f : Vec F S2x512x768 .f32) (u v : Vec F S1x512x768 .f32) :
    (a4.access oRect1 : View sig .tc _ _ _).write (Elt F) ((a4.access oRect0 : View sig .tc _ _ _).write (Elt F) f u Finset.univ) v Finset.univ
      = rows u v := by
  funext i
  unfold rows
  split
  · next h =>
    refine (write_rect_out cc0_stg4_0 oRect1 _ v i (oRect0_not i h)).trans ?_
    have e := write_rect_in cc0_stg4_0 oRect0 f u (rowOf i)
    rw [emb_row0 i h] at e; exact e
  · next h =>
    have e := write_rect_in cc0_stg4_0 oRect1 ((a4.access oRect0 : View sig .tc _ _ _).write (Elt F) f u Finset.univ) v (rowOf i)
    rw [emb_row1 i h] at e; exact e

/-- The result after the first block. -/
def outPut (wo : FVec F S512x768 .bf16) (cx : Vec F S512x1024 .bf16) : Vec F S2x512x768 .f32 := rows (k0_pay34 wo cx) (k0_pay35 wo cx)
/-- The result after a later block. -/
def outAdd (acc : Vec F S2x512x768 .f32) (wo : FVec F S512x768 .bf16) (cx : Vec F S512x1024 .bf16) : Vec F S2x512x768 .f32 :=
  rows (k0_pay63 wo cx (row0 acc)) (k0_pay64 wo cx (row1 acc))

section Out

variable (c : Dev nD) (wo : FVec F S512x768 .bf16) (cx : Vec F S512x1024 .bf16)

theorem put_wp (Q : PUnit → sProp 𝕄) (f : Vec F S2x512x768 .f32) (k : P F) :
    pt c cc0_stg4_0 f ⊢ iprop((pt c cc0_stg4_0 (outPut wo cx) -∗ WP c k Q) -∗ WP c (put a4 wo cx k) Q) := by
  unfold put
  iintro H Hk
  iapply (wp_load 𝒱₀ (c : Thread nD τ) none Set.univ (m := a4) (S := Finset.univ) (Finset.subset_univ _)) $$ H
  iintro H
  iapply (wp_store 𝒱₀ (c : Thread nD τ) none Set.univ (m := a4) (r := oRect0) (Mk := Finset.univ) (S := Finset.univ) (Finset.subset_univ _)) $$ H
  iintro H
  iapply (wp_load 𝒱₀ (c : Thread nD τ) none Set.univ (m := a4) (S := Finset.univ) (Finset.subset_univ _)) $$ H
  iintro H
  iapply (wp_store 𝒱₀ (c : Thread nD τ) none Set.univ (m := a4) (r := oRect1) (Mk := Finset.univ) (S := Finset.univ) (Finset.subset_univ _)) $$ H
  rw [show (a4.access oRect1 : View sig .tc _ _ _).write (Elt F) ((a4.access oRect0 : View sig .tc _ _ _).write (Elt F) f (k0_pay34 wo cx) Finset.univ) (k0_pay35 wo cx) Finset.univ
    = outPut wo cx from write_rows _ _ _]
  iexact Hk

theorem add_wp (Q : PUnit → sProp 𝕄) (f : Vec F S2x512x768 .f32) (k : P F) :
    pt c cc0_stg4_0 f ⊢ iprop((pt c cc0_stg4_0 (outAdd f wo cx) -∗ WP c k Q) -∗ WP c (add a4 wo cx k) Q) := by
  unfold add
  iintro H Hk
  iapply (wp_load 𝒱₀ (c : Thread nD τ) none Set.univ (m := a4) (S := Finset.univ) (Finset.subset_univ _)) $$ H
  iintro H
  iapply (wp_load 𝒱₀ (c : Thread nD τ) none Set.univ (m := a4) (S := Finset.univ) (Finset.subset_univ _)) $$ H
  iintro H
  iapply (wp_store 𝒱₀ (c : Thread nD τ) none Set.univ (m := a4) (r := oRect0) (Mk := Finset.univ) (S := Finset.univ) (Finset.subset_univ _)) $$ H
  iintro H
  iapply (wp_load 𝒱₀ (c : Thread nD τ) none Set.univ (m := a4) (S := Finset.univ) (Finset.subset_univ _)) $$ H
  iintro H
  iapply (wp_load 𝒱₀ (c : Thread nD τ) none Set.univ (m := a4) (S := Finset.univ) (Finset.subset_univ _)) $$ H
  iintro H
  iapply (wp_store 𝒱₀ (c : Thread nD τ) none Set.univ (m := a4) (r := oRect1) (Mk := Finset.univ) (S := Finset.univ) (Finset.subset_univ _)) $$ H
  rw [show a4.view.readAt (Elt F) oRect1.toLoadRect ((a4.access oRect0 : View sig .tc _ _ _).write (Elt F) f (k0_pay63 wo cx (a4.view.readAt (Elt F) oRect0.toLoadRect f)) Finset.univ)
    = row1 f from funext fun j => write_rect_out cc0_stg4_0 oRect0 f _ _ (oRect1_not j)]
  rw [show (a4.access oRect1 : View sig .tc _ _ _).write (Elt F) ((a4.access oRect0 : View sig .tc _ _ _).write (Elt F) f (k0_pay63 wo cx (a4.view.readAt (Elt F) oRect0.toLoadRect f)) Finset.univ) (k0_pay64 wo cx (row1 f)) Finset.univ
    = outAdd f wo cx from write_rows _ _ _]
  iexact Hk

end Out

end Cert.KernelIdeal.Body

end
-- ==== Proof.Slots.lean ====
module

public import proofs.«01_k».proof.Proof.Group

/-!
# Groups over slots

A slot of a landing buffer holds a block of weights.  What a load of one weight reads is that half of the
block; a group over slots is stated over the blocks the slots hold.
-/

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F] [Named F]

local notation "𝕄" => MT nD τ sig Unit (Elt F) ℕ UU ℕ

/-- One weight of a block: its `Wq` part (0) or its `Wo` part (1). -/
def wHalf (X : Vec F S2x512x768 .bf16) (g : Fin 2) : FVec F S512x768 .bf16 := fun j => X (ix3 g (j 0 : Fin 512) (j 1 : Fin 768))

section Reads

variable (m : Memref sig .tc .vmem S5x2x512x768 .bf16) (k : Fin 5) (g : Fin 2) (f : m.view.ty.Contents (Elt F))

theorem half_read : (half m k g).view.read (Elt F) f
    = shapeCast S512x768 (m.view.readAt (Elt F) (tRect k g).toLoadRect f) shapeCasts_S1x1x512x768_S512x768 :=
  Memref.read_squeeze_slice m _ _ _ _ f

/-- A weight of a slot is that half of the slot. -/
theorem half_of_slot (X : Vec F S2x512x768 .bf16) (h : (slot m k).view.read (Elt F) f = X) :
    (half m k g).view.read (Elt F) f = wHalf X g := by
  subst h
  funext j
  obtain ⟨a, b, rfl⟩ : ∃ (a : Fin 512) (b : Fin 768), j = ix2 a b := ⟨j 0, j 1, eq_ix2 j⟩
  show m.view.readAt (Elt F) (tRect k g).toLoadRect f (Shape.reshapeEquiv _ (ix2 a b))
    = m.view.readAt (Elt F) (Rect.unit (s := S5x2x512x768) (sOff k) S1x2x512x768.size (sOff_inb k)).toLoadRect f (Shape.reshapeEquiv _ (ix3 g a b))
  have e1 := reshapeEquiv_ix2_11ab (a := 512) (b := 768) (by decide) a b
  have e2 := reshapeEquiv_ix3_1abc (a := 2) (b := 512) (c := 768) (by decide) g a b
  refine (congrArg _ e1).trans (Eq.trans ?_ (congrArg _ e2).symm)
  rw [View.readAt_apply, View.readAt_apply]
  have e : (tRect k g).toLoadRect.idx (ix4 (⟨0, Nat.one_pos⟩ : Fin 1) (⟨0, Nat.one_pos⟩ : Fin 1) a b)
      = (Rect.unit (s := S5x2x512x768) (sOff k) S1x2x512x768.size (sOff_inb k)).toLoadRect.idx (ix4 (⟨0, Nat.one_pos⟩ : Fin 1) g a b) := by
    funext x; apply Fin.ext
    match x with
    | ⟨0, _⟩ => rfl
    | ⟨1, _⟩ => show g.val + 1 * 0 = 0 + 1 * g.val; omega
    | ⟨2, _⟩ => rfl
    | ⟨3, _⟩ => rfl
  exact congrArg (fun i => _root_.cast _ (f (m.view.emb i))) e

end Reads

/-- A row of the device's own block is that half of it. -/
theorem half_of_row0 (X : Vec F S2x512x768 .bf16) : shapeCast S512x768 (row0 X) shapeCasts_S1x512x768_S512x768 = wHalf X 0 := by
  funext j
  obtain ⟨a, b, rfl⟩ : ∃ (a : Fin 512) (b : Fin 768), j = ix2 a b := ⟨j 0, j 1, eq_ix2 j⟩
  have e1 := reshapeEquiv_ix2_1ab (a := 512) (b := 768) (by decide) a b
  refine (congrArg (row0 X) e1).trans (congrArg X ?_)
  funext x; apply Fin.ext
  match x with
  | ⟨0, _⟩ => rfl
  | ⟨1, _⟩ => show 0 + 1 * a.val = a.val; omega
  | ⟨2, _⟩ => show 0 + 1 * b.val = b.val; omega

theorem half_of_row1 (X : Vec F S2x512x768 .bf16) : shapeCast S512x768 (row1 X) shapeCasts_S1x512x768_S512x768 = wHalf X 1 := by
  funext j
  obtain ⟨a, b, rfl⟩ : ∃ (a : Fin 512) (b : Fin 768), j = ix2 a b := ⟨j 0, j 1, eq_ix2 j⟩
  have e1 := reshapeEquiv_ix2_1ab (a := 512) (b := 768) (by decide) a b
  refine (congrArg (row1 X) e1).trans (congrArg X ?_)
  funext x; apply Fin.ext
  match x with
  | ⟨0, _⟩ => rfl
  | ⟨1, _⟩ => show 0 + 1 * a.val = a.val; omega
  | ⟨2, _⟩ => show 0 + 1 * b.val = b.val; omega

section Groups

variable (c : Dev nD) (o : Offs) (K : Vec F S64x2x64x512 .bf16) (V : Vec F S64x2x65x512 .bf16) (X : Vec F S2x512x768 .bf16)

/-- A block's part of the result, put: from the block's weights. -/
def partPut (w wo : FVec F S512x768 .bf16) : Vec F S2x512x768 .f32 := outPut wo (ctxOf o (qPay w X) K V)
/-- A block's part of the result, added. -/
def partAdd (acc : Vec F S2x512x768 .f32) (w wo : FVec F S512x768 .bf16) : Vec F S2x512x768 .f32 := outAdd acc wo (ctxOf o (qPay w X) K V)

theorem first_wp (q : PosShare TreeShare) (Y : Vec F S2x512x768 .bf16) (Q : PUnit → sProp 𝕄) (f : Vec F S2x512x768 .f32) (k : P F) :
    iprop((a1.view.loc (c : Thread nD τ) ↦[Finset.univ]{q} Y) ∗ R c K V X ∗ pt c cc0_stg4_0 f)
      ⊢ iprop((((a1.view.loc (c : Thread nD τ) ↦[Finset.univ]{q} Y) ∗ R c K V X ∗ pt c cc0_stg4_0 (partPut o K V X (wHalf Y 0) (wHalf Y 1))) -∗ WP c k Q)
        -∗ WP c (first a0 a1 a2 a3 a4 a7 w7 a8 w8 o k) Q) := by
  unfold first
  iintro ⟨H1, HR, H4⟩ Hk
  iapply (wp_load 𝒱₀ (c : Thread nD τ) none Set.univ (m := a1) (S := Finset.univ) (Finset.subset_univ _)) $$ H1
  iintro H1
  iapply (wp_load 𝒱₀ (c : Thread nD τ) none Set.univ (m := a1) (S := Finset.univ) (Finset.subset_univ _)) $$ H1
  iintro H1
  rw [show shapeCast S512x768 (a1.view.readAt (Elt F) oRect0.toLoadRect Y) shapeCasts_S1x512x768_S512x768 = wHalf Y 0 from half_of_row0 Y,
    show shapeCast S512x768 (a1.view.readAt (Elt F) oRect1.toLoadRect Y) shapeCasts_S1x512x768_S512x768 = wHalf Y 1 from half_of_row1 Y]
  iapply (group_wp c o K V Q X (wHalf Y 0) _) $$ HR
  iintro HR
  iapply (put_wp c (wHalf Y 1) _ Q f k) $$ H4
  iintro H4
  iapply Hk
  isplitl [H1]; · iexact H1
  isplitl [HR]; · iexact HR
  iexact H4

/-- A device's hold of one weight of a slot, by what it reads. -/
abbrev hOwns (m : Memref sig .tc .vmem S5x2x512x768 .bf16) (k : Fin 5) (g : Fin 2) (q : PosShare TreeShare) (w : FVec F S512x768 .bf16) : sProp 𝕄 :=
  owns (c : Thread nD τ) (half m k g) q w
/-- A device's hold of a slot, by what it reads. -/
abbrev sOwns (m : Memref sig .tc .vmem S5x2x512x768 .bf16) (k : Fin 5) (q : PosShare TreeShare) (Y : Vec F S2x512x768 .bf16) : sProp 𝕄 :=
  owns (c : Thread nD τ) (slot m k) q Y

theorem readHalf_wp (m : Memref sig .tc .vmem S5x2x512x768 .bf16) (k : Fin 5) (g : Fin 2) (q : PosShare TreeShare) (w : FVec F S512x768 .bf16)
    (Q : PUnit → sProp 𝕄) (kk : Vec F S1x1x512x768 .bf16 → P F) :
    hOwns c m k g q w ⊢ iprop((∀ u : Vec F S1x1x512x768 .bf16, ⌜shapeCast S512x768 u shapeCasts_S1x1x512x768_S512x768 = w⌝ -∗ hOwns c m k g q w -∗ WP c (kk u) Q)
      -∗ WP c (readHalf m k g kk) Q) := by
  unfold readHalf hOwns owns
  iintro ⟨%f, %hf, H⟩ Hk
  iapply (wp_load 𝒱₀ (c : Thread nD τ) none Set.univ (m := m) (q := q) (f := f) (S := (half m k g).view.set) (by
    rw [show (half m k g).view.set = (m.view.slice (tRect k g)).set from View.set_reshape _ _]
    rw [View.set_slice]
    exact Finset.Subset.refl _)) $$ H
  iintro H
  iapply Hk
  · ipureintro; rw [← hf]; exact (half_read m k g f).symm
  iexists f
  isplitr; · ipureintro; exact hf
  iexact H

theorem tRect_sub (k : Fin 5) (g : Fin 2) : (tRect k g).set ⊆ (Rect.unit (s := S5x2x512x768) (sOff k) S1x2x512x768.size (sOff_inb k)).set := by
  intro i hi
  rw [Rect.mem_set_unit] at hi ⊢
  intro a
  have h := hi a
  have hg := g.isLt
  match a with
  | ⟨0, _⟩ => exact h
  | ⟨1, _⟩ =>
    have h1 : g.val ≤ (i 1).val ∧ (i 1).val < g.val + 1 := h
    show 0 ≤ (i 1).val ∧ (i 1).val < 0 + 2
    omega
  | ⟨2, _⟩ => exact h
  | ⟨3, _⟩ => exact h

/-- A weight's elements are among its slot's. -/
theorem half_sub_slot (m : Memref sig .tc .vmem S5x2x512x768 .bf16) (k : Fin 5) (g : Fin 2) :
    (half m k g).view.set ⊆ (slot m k).view.set := by
  rw [show (half m k g).view.set = (m.view.slice (tRect k g)).set from View.set_reshape _ _,
    show (slot m k).view.set = (m.view.slice (Rect.unit (s := S5x2x512x768) (sOff k) S1x2x512x768.size (sOff_inb k))).set from View.set_reshape _ _,
    View.set_slice, View.set_slice]
  exact Finset.map_subset_map.mpr (tRect_sub k g)

theorem readSlot_wp (m : Memref sig .tc .vmem S5x2x512x768 .bf16) (k : Fin 5) (g : Fin 2) (q : PosShare TreeShare) (Y : Vec F S2x512x768 .bf16)
    (Q : PUnit → sProp 𝕄) (kk : Vec F S1x1x512x768 .bf16 → P F) :
    sOwns c m k q Y ⊢ iprop((∀ u : Vec F S1x1x512x768 .bf16, ⌜shapeCast S512x768 u shapeCasts_S1x1x512x768_S512x768 = wHalf Y g⌝ -∗ sOwns c m k q Y -∗ WP c (kk u) Q)
      -∗ WP c (readHalf m k g kk) Q) := by
  unfold readHalf sOwns owns
  iintro ⟨%f, %hf, H⟩ Hk
  iapply (wp_load 𝒱₀ (c : Thread nD τ) none Set.univ (m := m) (q := q) (f := f) (S := (slot m k).view.set) (by
    refine Finset.Subset.trans (Finset.Subset.trans ?_ (Finset.Subset.refl _)) (half_sub_slot m k g)
    rw [show (half m k g).view.set = (m.view.slice (tRect k g)).set from View.set_reshape _ _]
    rw [View.set_slice]
    exact Finset.Subset.refl _)) $$ H
  iintro H
  iapply Hk
  · ipureintro; exact (half_read m k g f).symm.trans (half_of_slot m k g f Y hf)
  iexists f
  isplitr; · ipureintro; exact hf
  iexact H

/-- A later group, both weights from one slot. -/
theorem laterA_wp (m : Memref sig .tc .vmem S5x2x512x768 .bf16) (s : Fin 5) (q : PosShare TreeShare) (Y : Vec F S2x512x768 .bf16)
    (Q : PUnit → sProp 𝕄) (f : Vec F S2x512x768 .f32) (k : P F) :
    iprop(sOwns c m s q Y ∗ R c K V X ∗ pt c cc0_stg4_0 f)
      ⊢ iprop(((sOwns c m s q Y ∗ R c K V X ∗ pt c cc0_stg4_0 (partAdd o K V X f (wHalf Y 0) (wHalf Y 1))) -∗ WP c k Q)
        -∗ WP c (later a0 a2 a3 a4 a7 w7 a8 w8 m m s o k) Q) := by
  unfold later
  iintro ⟨H1, HR, H4⟩ Hk
  iapply (readSlot_wp c m s 0 q Y Q _) $$ H1
  iintro %u0 %hu0 H1
  iapply (readSlot_wp c m s 1 q Y Q _) $$ H1
  iintro %u1 %hu1 H1
  rw [hu0, hu1]
  iapply (group_wp c o K V Q X (wHalf Y 0) _) $$ HR
  iintro HR
  iapply (add_wp c (wHalf Y 1) _ Q f k) $$ H4
  iintro H4
  iapply Hk
  isplitl [H1]; · iexact H1
  isplitl [HR]; · iexact HR
  iexact H4

/-- The last group, its weights from halves of two buffers. -/
theorem laterB_wp (m0 m1 : Memref sig .tc .vmem S5x2x512x768 .bf16) (s : Fin 5) (q0 q1 : PosShare TreeShare) (w wo : FVec F S512x768 .bf16)
    (Q : PUnit → sProp 𝕄) (f : Vec F S2x512x768 .f32) (k : P F) :
    iprop(hOwns c m0 s 0 q0 w ∗ hOwns c m1 s 1 q1 wo ∗ R c K V X ∗ pt c cc0_stg4_0 f)
      ⊢ iprop(((hOwns c m0 s 0 q0 w ∗ hOwns c m1 s 1 q1 wo ∗ R c K V X ∗ pt c cc0_stg4_0 (partAdd o K V X f w wo)) -∗ WP c k Q)
        -∗ WP c (later a0 a2 a3 a4 a7 w7 a8 w8 m0 m1 s o k) Q) := by
  unfold later
  iintro ⟨H0, H1, HR, H4⟩ Hk
  iapply (readHalf_wp c m0 s 0 q0 w Q _) $$ H0
  iintro %u0 %hu0 H0
  iapply (readHalf_wp c m1 s 1 q1 wo Q _) $$ H1
  iintro %u1 %hu1 H1
  rw [hu0, hu1]
  iapply (group_wp c o K V Q X w _) $$ HR
  iintro HR
  iapply (add_wp c wo _ Q f k) $$ H4
  iintro H4
  iapply Hk
  isplitl [H0]; · iexact H0
  isplitl [H1]; · iexact H1
  isplitl [HR]; · iexact HR
  iexact H4

end Groups

end Cert.KernelIdeal.Body

end
-- ==== Proof.Sched.lean ====
module

public import proofs.«01_k».proof.Proof.Slots
public import Idealize.ShloMosaic.Lib.Pipeline.Launch
public import Idealize.ShloMosaic.Lib.Pipeline.Kit
public import Idealize.ShloMosaic.Lib.Rounds.Family

/-!
# The two rings' schedule

Blocks of weights travel both ways round the ring: `true` to the right through the first landing buffer,
`false` to the left through the second.  Each way has nine transfer semaphores a device — `0..3` for
sends, `4` unused, `5..8` for arrivals — and each is waited once.  The barrier has one duty for each way: the
device a ring's block will be sent to hands over its landing buffer.
-/

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## The ring -/

/-- The next device along a ring. -/
def nxt (e : Bool) (c : Dev nD) : Dev nD := match e with
  | true => ⟨(c.val + 1) % 8, Nat.mod_lt _ (by decide)⟩
  | false => ⟨(c.val + 7) % 8, Nat.mod_lt _ (by decide)⟩

/-- The device whose block slot `k` of a ring's buffer holds. -/
def src (e : Bool) (k : Fin 5) (c : Dev nD) : Dev nD := match e with
  | true => ⟨(c.val + (8 - k.val)) % 8, Nat.mod_lt _ (by decide)⟩
  | false => ⟨(c.val + k.val) % 8, Nat.mod_lt _ (by decide)⟩

theorem nxt_nxt : ∀ (e : Bool) (c : Dev nD), nxt (!e) (nxt e c) = c := by decide
theorem nxt_inj : ∀ (e : Bool) (c d : Dev nD), nxt e c = nxt e d → c = d := by decide
theorem src_zero : ∀ (e : Bool) (c : Dev nD), src e 0 c = c := by decide
theorem src_next : ∀ (e : Bool) (k : Fin 4) (c : Dev nD), src e k.succ (nxt e c) = src e k.castSucc c := by decide

theorem dev1_eq (c : Dev nD) : (⟨k0_dev1 c, k0_dev1_lt c⟩ : Dev nD) = nxt false c := Fin.ext (k0_dev1_eq c)
theorem dev2_eq (c : Dev nD) : (⟨k0_dev2 c, k0_dev2_lt c⟩ : Dev nD) = nxt true c := Fin.ext (k0_dev2_eq c)
theorem dev3_eq (c : Dev nD) : (⟨k0_dev3 c, k0_dev3_lt c⟩ : Dev nD) = nxt true c := Fin.ext (k0_dev3_eq c)
theorem dev4_eq (c : Dev nD) : (⟨k0_dev4 c, k0_dev4_lt c⟩ : Dev nD) = nxt false c := Fin.ext (k0_dev4_eq c)
theorem dev5_eq (c : Dev nD) : (⟨k0_dev5 c, k0_dev5_lt c⟩ : Dev nD) = nxt true c := Fin.ext (k0_dev5_eq c)
theorem dev6_eq (c : Dev nD) : (⟨k0_dev6 c, k0_dev6_lt c⟩ : Dev nD) = nxt false c := Fin.ext (k0_dev6_eq c)
theorem dev7_eq (c : Dev nD) : (⟨k0_dev7 c, k0_dev7_lt c⟩ : Dev nD) = nxt true c := Fin.ext (k0_dev7_eq c)
theorem dev8_eq (c : Dev nD) : (⟨k0_dev8 c, k0_dev8_lt c⟩ : Dev nD) = nxt false c := Fin.ext (k0_dev8_eq c)
theorem dev9_eq (c : Dev nD) : (⟨k0_dev9 c, k0_dev9_lt c⟩ : Dev nD) = nxt true c := Fin.ext (k0_dev9_eq c)
theorem dev10_eq (c : Dev nD) : (⟨k0_dev10 c, k0_dev10_lt c⟩ : Dev nD) = nxt false c := Fin.ext (k0_dev10_eq c)

/-! ## Cells -/

/-- A ring's landing buffer, and the weight its last transfer carries. -/
abbrev buf : Bool → Memref sig .tc .vmem S5x2x512x768 .bf16 | true => a5 | false => a6
abbrev gOf : Bool → Fin 2 | true => 0 | false => 1

/-- A ring's transfer semaphores. -/
abbrev dsem (e : Bool) (j : Fin 9) : DmaSem sig := match e with
  | true => (⟨5 + j.val, by have := j.isLt; show 5 + j.val < 23; omega⟩ : Fin 23)
  | false => (⟨14 + j.val, by have := j.isLt; show 14 + j.val < 23; omega⟩ : Fin 23)

abbrev barCell (c : Dev nD) : GSem nD τ sig := ((c : Thread nD τ), .reg barS)
abbrev dcell (c : Dev nD) (e : Bool) (j : Fin 9) : GSem nD τ sig := ((c : Thread nD τ), .dma (dsem e j))

/-- What a whole block's transfer credits, and a half's. -/
abbrev Ns : ℕ := (slot a5 1).view.dmaCredit
abbrev Nh : ℕ := (half a5 3 0).view.dmaCredit
theorem Ns_pos : 0 < Ns := View.dmaCredit_pos _ (by decide)
theorem Nh_pos : 0 < Nh := View.dmaCredit_pos _ (by decide)

/-- The share of the device's own block a ring's first transfer reads; the device keeps the left. -/
abbrev qOwn : Bool → PosShare TreeShare | true => fullShare.right.left | false => fullShare.right.right

variable (WQ : Dev nD → Vec F S2x512x768 .bf16)

/-- What a ring's transfer semaphore `j` is paid on device `c`: a send's source back, an arrival's slot. -/
def dirPay (c : Dev nD) (e : Bool) : ℕ → sProp 𝕄
  | 0 => owns (c : Thread nD τ) a1 (qOwn e) (WQ c)
  | 1 => sOwns c (buf e) 1 fullShare.right (WQ (src e 1 c))
  | 2 => sOwns c (buf e) 2 fullShare.right (WQ (src e 2 c))
  | 3 => hOwns c (buf e) 3 (gOf e) fullShare.right (wHalf (WQ (src e 3 c)) (gOf e))
  | 5 => sOwns c (buf e) 1 fullShare (WQ (src e 1 c))
  | 6 => sOwns c (buf e) 2 fullShare (WQ (src e 2 c))
  | 7 => sOwns c (buf e) 3 fullShare (WQ (src e 3 c))
  | 8 => hOwns c (buf e) 4 (gOf e) fullShare (wHalf (WQ (src e 4 c)) (gOf e))
  | _ => iprop(emp)

/-- Elements of a buffer at contents not chosen. -/
def anyAt (ℓ : Loc nD τ sig) (S : Finset (Idx ℓ)) (q : PosShare TreeShare) : sProp 𝕄 := iprop(∃ f : Buf (Elt F) ℓ, (ℓ ↦[S]{q} f))

/-- A part of a landing buffer at contents not chosen. -/
abbrev sAny (c : Dev nD) (e : Bool) (k : Fin 5) : sProp 𝕄 := anyAt ((slot (buf e) k).view.loc (c : Thread nD τ)) (slot (buf e) k).view.set fullShare
abbrev hAny (c : Dev nD) (e : Bool) (k : Fin 5) (g : Fin 2) : sProp 𝕄 := anyAt ((half (buf e) k g).view.loc (c : Thread nD τ)) (half (buf e) k g).view.set fullShare

/-- What device `c` hands over of a ring's buffer: the parts that will be landed on, and that its arrival cells are open. -/
def lend (c : Dev nD) (e : Bool) : sProp 𝕄 :=
  iprop((sAny c e 1 ∗ sAny c e 2 ∗ sAny c e 3 ∗ hAny c e 4 (gOf e))
    ∗ reached ER (dcell c e 5) 0 ∗ reached ER (dcell c e 6) 0 ∗ reached ER (dcell c e 7) 0 ∗ reached ER (dcell c e 8) 0)

/-- A transfer semaphore's payload. -/
def dmaPay (c : Dev nD) (s : DmaSem sig) : sProp 𝕄 := if s.val < 14 then dirPay WQ c true (s.val - 5) else dirPay WQ c false (s.val - 14)

/-- The transfer semaphores with a duty. -/
abbrev Talks (s : DmaSem sig) : Prop := 5 ≤ s.val ∧ s.val ≠ 9 ∧ s.val ≠ 18
/-- Those of the halves. -/
abbrev IsHalf (s : DmaSem sig) : Prop := s.val = 8 ∨ s.val = 13 ∨ s.val = 17 ∨ s.val = 22

/-- One round on every cell. -/
def Rd : Rounds.Schedule (GSem nD τ sig) Bool 𝕄 where
  duties g r := if r = 0 ∧ g.1.2 = .tc then (match g.2 with | .reg _ => Finset.univ | .dma s => if Talks s then {true} else ∅) else ∅
  unitless _ := False
  amount g _ _ := match g.2 with | .reg _ => 1 | .dma s => if IsHalf s then Nh else Ns
  payload g r d := match g.2 with | .reg _ => lend (nxt d g.1.1) d | .dma s => dmaPay WQ g.1.1 s
  amount_pos g _ _ _ := by
    split
    · exact Nat.one_pos
    · split
      · exact Nh_pos
      · exact Ns_pos

instance dirPay_storable (c : Dev nD) (e : Bool) (j : ℕ) : BI.Storable (upEmb : UEmb _ 𝕄) (dirPay WQ c e j) := by
  unfold dirPay
  split <;> infer_instance

instance anyAt_storable (ℓ : Loc nD τ sig) (S : Finset (Idx ℓ)) (q : PosShare TreeShare) : BI.Storable (upEmb : UEmb _ 𝕄) (anyAt (F := F) ℓ S q) := by
  unfold anyAt; infer_instance
instance lend_storable (c : Dev nD) (e : Bool) : BI.Storable (upEmb : UEmb _ 𝕄) (lend (F := F) c e) := by
  unfold lend
  infer_instance

instance Rd_payload_storable (g : GSem nD τ sig) (r : ℕ) (d : Bool) : BI.Storable (upEmb : UEmb _ 𝕄) ((Rd WQ).payload g r d) := by
  show BI.Storable upEmb (match g.2 with | .reg _ => lend (nxt d g.1.1) d | .dma s => dmaPay WQ g.1.1 s)
  split
  · infer_instance
  · unfold dmaPay; split <;> infer_instance

/-- A ring's cells with a duty. -/
abbrev live (j : Fin 9) : Prop := j ≠ 4
/-- What the transfer behind a ring's semaphore credits. -/
abbrev amt (j : Fin 9) : ℕ := if j = 3 ∨ j = 8 then Nh else Ns

theorem talks_dsem : ∀ (e : Bool) (j : Fin 9), live j → Talks (dsem e j) := by decide
theorem not_talks : ∀ (e : Bool), ¬ Talks (dsem e 4) := by decide
theorem isHalf_dsem : ∀ (e : Bool) (j : Fin 9), IsHalf (dsem e j) ↔ (j = 3 ∨ j = 8) := by decide

section Facts

variable (c : Dev nD) (e : Bool) (j : Fin 9)

theorem duties_bar : (Rd WQ).duties (barCell c) 0 = Finset.univ := by
  dsimp only [Rd]; rw [if_pos ⟨rfl, rfl⟩]
theorem duties_dma (h : live j) : (Rd WQ).duties (dcell c e j) 0 = {true} := by
  dsimp only [Rd]; rw [if_pos ⟨rfl, rfl⟩, if_pos (talks_dsem e j h)]
theorem duties_none : (Rd WQ).duties (dcell c e 4) 0 = ∅ := by
  dsimp only [Rd]; rw [if_pos ⟨rfl, rfl⟩, if_neg (not_talks e)]
theorem duties_later (g : GSem nD τ sig) (r : ℕ) (h : 1 ≤ r) : (Rd WQ).duties g r = ∅ := if_neg fun h' => by omega
theorem amount_bar (d : Bool) : (Rd WQ).amount (barCell c) 0 d = 1 := rfl
theorem amount_dma (d : Bool) : (Rd WQ).amount (dcell c e j) 0 d = amt j := by
  show (if IsHalf (dsem e j) then Nh else Ns) = if j = 3 ∨ j = 8 then Nh else Ns
  by_cases h : j = 3 ∨ j = 8
  · rw [if_pos h, if_pos ((isHalf_dsem e j).mpr h)]
  · rw [if_neg h, if_neg fun h' => h ((isHalf_dsem e j).mp h')]
theorem payload_bar (d : Bool) : (Rd WQ).payload (barCell c) 0 d = lend (nxt d c) d := rfl
theorem payload_dma : (Rd WQ).payload (dcell c e j) 0 true = dirPay WQ c e j.val := by
  show (if (dsem e j).val < 14 then dirPay WQ c true ((dsem e j).val - 5) else dirPay WQ c false ((dsem e j).val - 14)) = _
  have hj := j.isLt
  cases e
  · rw [if_neg (show ¬ 14 + j.val < 14 by omega), show (dsem false j).val - 14 = j.val from Nat.add_sub_cancel_left 14 j.val]
  · rw [if_pos (show 5 + j.val < 14 by omega), show (dsem true j).val - 5 = j.val from Nat.add_sub_cancel_left 5 j.val]

theorem expect_bar : (Rd WQ).expect (barCell c) 0 = 2 := by
  unfold Schedule.expect Schedule.amountOf; rw [duties_bar]; rfl
theorem expect_dma (h : live j) : (Rd WQ).expect (dcell c e j) 0 = amt j := by
  unfold Schedule.expect Schedule.amountOf; rw [duties_dma WQ c e j h, Finset.sum_singleton, amount_dma]

theorem rest_bar : bigSep ((Rd WQ).duties (barCell c) 0 \ ∅) (fun d => (Rd WQ).payload (barCell c) 0 d)
    = iprop(lend (nxt true c) true ∗ lend (nxt false c) false) := by
  rw [Finset.sdiff_empty, duties_bar, bigSep_univ_eq_bigSepL [true, false] (by decide) (by decide)]
  rfl
theorem rest_dma (h : live j) : bigSep ((Rd WQ).duties (dcell c e j) 0 \ ∅) (fun d => (Rd WQ).payload (dcell c e j) 0 d) = dirPay WQ c e j.val := by
  rw [Finset.sdiff_empty, duties_dma WQ c e j h, bigSep_singleton, payload_dma]

end Facts

/-! ## Debts and levels -/

/-- Debts in the order they are paid: a way along the ring, a semaphore there, an amount. -/
abbrev Debt : Type := Bool × SemLoc sig × ℕ
abbrev Debt.cell (c : Dev nD) (x : Debt) : GSem nD τ sig := ((nxt x.1 c : Thread nD τ), x.2.1)

/-- The tally of a list of debts of device `c`. -/
def tal (c : Dev nD) : List Debt → CellTallies nD τ sig Unit
  | [] => 0
  | x :: l => tal c l + tallyAt (x.cell c) () x.2.2

/-- An arrival's debt. -/
abbrev dR (e : Bool) (j : Fin 9) : Debt := (e, .dma (dsem e j), amt j)
abbrev debts4 : List Debt := [dR true 8, dR false 8]
abbrev debts3 : List Debt := dR true 7 :: dR false 7 :: debts4
abbrev debts2 : List Debt := dR true 6 :: dR false 6 :: debts3
abbrev debts1 : List Debt := dR true 5 :: dR false 5 :: debts2
abbrev debts : List Debt := (false, .reg barS, 1) :: (true, .reg barS, 1) :: debts1

/-- What device `c` owes at launch. -/
def O₀ (c : Dev nD) : CellTallies nD τ sig Unit := tal c debts

def L (g : GSem nD τ sig) : Finset Unit := if g.1.2 = .tc then {()} else ∅
/-- A semaphore's level: the barrier below the arrivals, those by the round they end; sends and staging at the bottom. -/
def slv (s : SemLoc sig) : ℕ := match s with
  | .reg _ => 1
  | .dma s => if s.val = 10 ∨ s.val = 19 then 2 else if s.val = 11 ∨ s.val = 20 then 3 else if s.val = 12 ∨ s.val = 21 then 4
    else if s.val = 13 ∨ s.val = 22 then 5 else 0
def lv (g : GSem nD τ sig) (_ : Unit) : ℕ := slv g.2

theorem L_of_ne (g : GSem nD τ sig) (h : g.1.2 ≠ .tc) : L g = ∅ := if_neg h
theorem L_tc (c : Dev nD) (sm : SemLoc sig) : L ((c : Thread nD τ), sm) = {()} := if_pos rfl

theorem tal_pos {c : Dev nD} {g : GSem nD τ sig} {u : Unit} : ∀ (l : List Debt), 0 < tal c l g u → ∃ x ∈ l, g = x.cell c
  | [], h => absurd h (Nat.lt_irrefl 0)
  | x :: l, h => by
    have h : 0 < (tal c l + tallyAt (x.cell c) () x.2.2) g u := h
    rw [Pi.add_apply, Finsupp.add_apply] at h
    rcases Nat.add_pos_iff_pos_or_pos.mp h with h | h
    · obtain ⟨y, hy, e⟩ := tal_pos l h
      exact ⟨y, List.mem_cons_of_mem _ hy, e⟩
    · rw [tallyAt_apply] at h
      split at h
      · next hg => exact ⟨x, List.mem_cons_self, hg.1⟩
      · exact absurd h (Nat.lt_irrefl 0)

/-- A wait is allowed while every debt lies above it. -/
theorem mayWait (c : Dev nD) (sm : SemLoc sig) (l : List Debt) (h : ∀ x ∈ l, slv sm < slv x.2.1) :
    (levAts L lv : sProp 𝕄) ⊢ MayWait (c : Thread nD τ) sm () (tal c l) :=
  MayOwe.of_cut (L := L) (lev := lv) (slv sm) (fun p hp => by rw [Finset.mem_singleton.mp hp, L_tc]; exact Finset.mem_singleton_self _)
    (fun g u hg => by
      obtain ⟨x, -, rfl⟩ := tal_pos l hg
      rw [L_tc]; exact Finset.mem_singleton_self _)
    (fun p hp => by rw [Finset.mem_singleton.mp hp]; exact Nat.le_refl _)
    (fun g u hg => by
      obtain ⟨x, hx, rfl⟩ := tal_pos l hg
      exact h x hx)

theorem cutD (c : Dev nD) (g : GSem nD τ sig) (i : Unit) (h : 0 < O₀ c g i) : i ∈ L g ∧ (0 : ℕ) < lv g i := by
  obtain ⟨x, hx, rfl⟩ := tal_pos debts h
  refine ⟨by rw [L_tc]; exact Finset.mem_singleton_self _, ?_⟩
  exact (show ∀ x ∈ debts, 0 < slv x.2.1 by decide) x hx

end Cert.KernelIdeal.Body

end
-- ==== Proof.Parts.lean ====
module

public import proofs.«01_k».proof.Proof.Sched
public import Idealize.ShloMosaic.Lib.MemrefSat

/-!
# Parts of the landing buffers

A landing buffer is cut into the slots that will be landed on and the rest, and put together again at
whatever it then holds; two shares of one part are put together likewise.
-/

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

section Any

variable {ℓ : Loc nD τ sig} {I S : Finset (Idx ℓ)} (q : PosShare TreeShare)

theorem any_cut (h : I ⊆ S) : anyAt (F := F) ℓ S q ⊢ iprop(anyAt ℓ I q ∗ anyAt ℓ (S \ I) q) := by
  unfold anyAt
  iintro ⟨%f, H⟩
  ihave H := (pointsTo_split_subset (f := f) (q := q) h).1 $$ H
  icases H with ⟨H1, H2⟩
  isplitl [H1]; · iexists f; iexact H1
  iexists f; iexact H2

theorem any_glue (h : I ⊆ S) : iprop(anyAt (F := F) ℓ I q ∗ anyAt ℓ (S \ I) q) ⊢ anyAt ℓ S q := by
  unfold anyAt
  iintro ⟨⟨%f, H1⟩, ⟨%g, H2⟩⟩
  iexists (I.piecewise f g)
  iapply (pointsTo_join_subset (f := g) (g := f) (q := q) h)
  isplitl [H1]; · iexact H1
  iexact H2

theorem any_halves : iprop(anyAt (F := F) ℓ S q.left ∗ anyAt ℓ S q.right) ⊢ anyAt ℓ S q := by
  unfold anyAt
  iintro ⟨⟨%f, H1⟩, ⟨%g, H2⟩⟩
  iapply (show iprop((ℓ ↦[S]{q.left} f) ∗ (ℓ ↦[S]{q.right} g)) ⊢ (iprop(∃ f : Buf (Elt F) ℓ, (ℓ ↦[S]{q} f)) : sProp 𝕄) from
    pure_elim _ pointsTo_agree fun hv => by
      rw [pointsTo_congr (f := g) (g := f) (fun i hi => ((hv i (Finset.mem_inter.mpr ⟨hi, hi⟩)).1).symm)]
      iintro ⟨H1, H2⟩
      iexists f
      iapply (pointsTo_share (PosShare.mem_left_op_right q)).2
      isplitl [H1]; · iexact H1
      iexact H2)
  isplitl [H1]; · iexact H1
  iexact H2

end Any

theorem owns_any (c : Dev nD) {s : Shape} (m : Memref sig .tc .vmem s .bf16) (q : PosShare TreeShare) (X : Vec F s .bf16) :
    (owns (c : Thread nD τ) m q X : sProp 𝕄) ⊢ anyAt (m.view.loc (c : Thread nD τ)) m.view.set q := by
  unfold owns anyAt
  iintro ⟨%f, -, H⟩
  iexists f; iexact H

/-! ## The cuts of a landing buffer -/

abbrev sRect (k : Fin 5) : Rect S5x2x512x768 := Rect.unit (s := S5x2x512x768) (sOff k) S1x2x512x768.size (sOff_inb k)

section Cuts

variable (m : Memref sig .tc .vmem S5x2x512x768 .bf16)

theorem slot_set (k : Fin 5) : (slot m k).view.set = (sRect k).set.map m.view.emb := by
  rw [show (slot m k).view.set = (m.view.slice (sRect k)).set from View.set_reshape _ _, View.set_slice]

theorem slots_disjoint (k k' : Fin 5) (h : k ≠ k') : Disjoint (slot m k).view.set (slot m k').view.set := by
  rw [slot_set, slot_set, Finset.disjoint_map, Finset.disjoint_left]
  intro i hi hi'
  rw [Rect.mem_set_unit] at hi hi'
  have h1 : k.val ≤ (i 0).val ∧ (i 0).val < k.val + 1 := hi 0
  have h2 : k'.val ≤ (i 0).val ∧ (i 0).val < k'.val + 1 := hi' 0
  exact h (Fin.ext (by omega))

theorem slot_sub (k : Fin 5) : (slot m k).view.set ⊆ m.view.set := by
  rw [show (slot m k).view.set = (m.view.slice (sRect k)).set from View.set_reshape _ _]
  exact View.set_slice_subset _ _

/-- What is left of a landing buffer. -/
abbrev left0 : Finset (m.view.ty.shape.Idx) := m.view.set
abbrev left1 : Finset (m.view.ty.shape.Idx) := m.view.set \ (slot m 1).view.set
abbrev left2 : Finset (m.view.ty.shape.Idx) := left1 m \ (slot m 2).view.set
abbrev left3 : Finset (m.view.ty.shape.Idx) := left2 m \ (slot m 3).view.set
abbrev left4 (g : Fin 2) : Finset (m.view.ty.shape.Idx) := left3 m \ (half m 4 g).view.set

theorem sub2 : (slot m 2).view.set ⊆ left1 m := Finset.subset_sdiff.mpr ⟨slot_sub m 2, slots_disjoint m 2 1 (by decide)⟩
theorem sub3 : (slot m 3).view.set ⊆ left2 m :=
  Finset.subset_sdiff.mpr ⟨Finset.subset_sdiff.mpr ⟨slot_sub m 3, slots_disjoint m 3 1 (by decide)⟩, slots_disjoint m 3 2 (by decide)⟩
theorem sub4 (g : Fin 2) : (half m 4 g).view.set ⊆ left3 m := by
  refine Finset.Subset.trans (half_sub_slot m 4 g) ?_
  exact Finset.subset_sdiff.mpr ⟨Finset.subset_sdiff.mpr ⟨Finset.subset_sdiff.mpr ⟨slot_sub m 4, slots_disjoint m 4 1 (by decide)⟩,
    slots_disjoint m 4 2 (by decide)⟩, slots_disjoint m 4 3 (by decide)⟩

end Cuts

/-- The part of a ring's landing buffer that nothing lands on. -/
abbrev restAny (c : Dev nD) (e : Bool) : sProp 𝕄 := anyAt ((buf e).view.loc (c : Thread nD τ)) (left4 (buf e) (gOf e)) fullShare

abbrev bufAny (c : Dev nD) (e : Bool) : sProp 𝕄 := anyAt (F := F) ((buf e).view.loc (c : Thread nD τ)) (buf e).view.set fullShare

theorem buf_cut (c : Dev nD) (e : Bool) :
    bufAny (F := F) c e ⊢ iprop((sAny c e 1 ∗ sAny c e 2 ∗ sAny c e 3 ∗ hAny c e 4 (gOf e)) ∗ restAny c e) := by
  iintro H
  ihave H := (any_cut (F := F) fullShare (slot_sub (buf e) 1)) $$ H
  icases H with ⟨H1, H⟩
  ihave H := (any_cut (F := F) fullShare (sub2 (buf e))) $$ H
  icases H with ⟨H2, H⟩
  ihave H := (any_cut (F := F) fullShare (sub3 (buf e))) $$ H
  icases H with ⟨H3, H⟩
  ihave H := (any_cut (F := F) fullShare (sub4 (buf e) (gOf e))) $$ H
  icases H with ⟨H4, H⟩
  isplitr [H]
  · isplitl [H1]; · iexact H1
    isplitl [H2]; · iexact H2
    isplitl [H3]; · iexact H3
    iexact H4
  iexact H

theorem buf_glue (c : Dev nD) (e : Bool) :
    iprop((sAny c e 1 ∗ sAny c e 2 ∗ sAny c e 3 ∗ hAny c e 4 (gOf e)) ∗ restAny c e) ⊢ bufAny (F := F) c e := by
  iintro ⟨⟨H1, H2, H3, H4⟩, H⟩
  iapply (any_glue (F := F) fullShare (slot_sub (buf e) 1))
  isplitl [H1]; · iexact H1
  iapply (any_glue (F := F) fullShare (sub2 (buf e)))
  isplitl [H2]; · iexact H2
  iapply (any_glue (F := F) fullShare (sub3 (buf e)))
  isplitl [H3]; · iexact H3
  iapply (any_glue (F := F) fullShare (sub4 (buf e) (gOf e)))
  isplitl [H4]; · iexact H4
  iexact H

/-! ## Shares of a slot -/

theorem slot_halves (c : Dev nD) (e : Bool) (k : Fin 5) (Y : Vec F S2x512x768 .bf16) :
    sOwns c (buf e) k fullShare Y ⊢ iprop(sOwns c (buf e) k fullShare.left Y ∗ sOwns c (buf e) k fullShare.right Y) :=
  (owns_halves _ _ _ _).1

theorem slot_any (c : Dev nD) (e : Bool) (k : Fin 5) (Y Z : Vec F S2x512x768 .bf16) :
    iprop(sOwns c (buf e) k fullShare.left Y ∗ sOwns c (buf e) k fullShare.right Z) ⊢ sAny c e k := by
  iintro ⟨H1, H2⟩
  iapply (any_halves (F := F) fullShare)
  isplitl [H1]
  · iapply (owns_any (F := F) c (slot (buf e) k) fullShare.left Y); iexact H1
  · iapply (owns_any (F := F) c (slot (buf e) k) fullShare.right Z); iexact H2

/-- The part of slot 3 that is not the half sent on. -/
abbrev otherHalf (c : Dev nD) (e : Bool) : sProp 𝕄 :=
  anyAt ((buf e).view.loc (c : Thread nD τ)) ((slot (buf e) 3).view.set \ (half (buf e) 3 (gOf e)).view.set) fullShare.right

theorem slot3_cut (c : Dev nD) (e : Bool) (Y : Vec F S2x512x768 .bf16) :
    sOwns c (buf e) 3 fullShare.right Y ⊢ iprop(hOwns c (buf e) 3 (gOf e) fullShare.right (wHalf Y (gOf e)) ∗ otherHalf c e) := by
  unfold sOwns owns
  iintro ⟨%f, %hf, H⟩
  ihave H := (pointsTo_split_subset (f := f) (q := fullShare.right) (half_sub_slot (buf e) 3 (gOf e))).1 $$ H
  icases H with ⟨H1, H2⟩
  isplitl [H1]
  · unfold hOwns owns
    iexists f
    isplitr; · ipureintro; exact half_of_slot (buf e) 3 (gOf e) f Y hf
    iexact H1
  unfold otherHalf anyAt
  iexists f; iexact H2

theorem slot3_any (c : Dev nD) (e : Bool) (Y : Vec F S2x512x768 .bf16) (w : FVec F S512x768 .bf16) :
    iprop(sOwns c (buf e) 3 fullShare.left Y ∗ hOwns c (buf e) 3 (gOf e) fullShare.right w ∗ otherHalf c e) ⊢ sAny c e 3 := by
  iintro ⟨H1, H2, H3⟩
  iapply (any_halves (F := F) fullShare)
  isplitl [H1]
  · iapply (owns_any (F := F) c (slot (buf e) 3) fullShare.left Y); iexact H1
  iapply (any_glue (F := F) fullShare.right (half_sub_slot (buf e) 3 (gOf e)))
  isplitl [H2]
  · iapply (owns_any (F := F) c (half (buf e) 3 (gOf e)) fullShare.right w); iexact H2
  iexact H3

end Cert.KernelIdeal.Body

end
-- ==== Proof.Talk.lean ====
module

public import proofs.«01_k».proof.Proof.Parts

/-!
# Sends, waits and signals on the rings

Each is one rule over a ring `e` and a semaphore of it, so that the body's sixteen transfers and waits are
instances.
-/

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## The cells, and what every device may consult -/

theorem dsem_inj : Function.Injective (fun i : Bool × Fin 9 => (SemLoc.dma (dsem i.1 i.2) : SemLoc sig)) := by decide

def barEmb : Dev nD ↪ GSem nD τ sig := ⟨fun c => barCell c, fun _ _ h => congrArg (fun g : GSem nD τ sig => g.1.1) h⟩
def scEmb : Dev nD × (Bool × Fin 9) ↪ GSem nD τ sig :=
  ⟨fun ck => dcell ck.1 ck.2.1 ck.2.2, fun _ _ h =>
    Prod.ext (congrArg (fun g : GSem nD τ sig => g.1.1) h) (dsem_inj (congrArg Prod.snd h))⟩
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem dma_mem (c : Dev nD) (e : Bool) (j : Fin 9) : dcell c e j ∈ (barCells ∪ scCells : Finset (GSem nD τ sig)) :=
  Finset.mem_union_right _ (Finset.mem_map_of_mem scEmb (Finset.mem_univ (c, (e, j))))

variable (WQ : Dev nD → Vec F S2x512x768 .bf16)

/-- Every cell's invariant under one map of names; round 0 of every barrier cell reached. -/
def records (κ : GSem nD τ sig → ℕ) : sProp 𝕄 :=
  iprop((bigSep (barCells ∪ scCells) fun g => cellInv ER (Rd WQ) (κ g) g) ∗ bigSep barCells fun g => reached ER g 0)

instance records_persistent (κ : GSem nD τ sig → ℕ) : BI.Persistent (records WQ κ) := by unfold records; infer_instance

theorem inv_at (κ : GSem nD τ sig → ℕ) {g : GSem nD τ sig} (hg : g ∈ (barCells ∪ scCells : Finset (GSem nD τ sig))) :
    (bigSep (barCells ∪ scCells) fun g => (cellInv ER (Rd WQ) (κ g) g : sProp 𝕄)) ⊢ cellInv ER (Rd WQ) (κ g) g :=
  bigSep_elim hg
theorem reached_at (c : Dev nD) : (bigSep barCells fun g => (reached ER g 0 : sProp 𝕄)) ⊢ reached ER (barCell c) 0 :=
  bigSep_elim (Finset.mem_map_of_mem barEmb (Finset.mem_univ c))

theorem inv_bar (κ : GSem nD τ sig → ℕ) (c : Dev nD) : records WQ κ ⊢ cellInv ER (Rd WQ) (κ (barCell c)) (barCell c) := by
  unfold records
  iintro ⟨H, -⟩
  iapply (inv_at WQ κ (bar_mem c)); iexact H
theorem inv_dma (κ : GSem nD τ sig → ℕ) (c : Dev nD) (e : Bool) (j : Fin 9) :
    records WQ κ ⊢ cellInv ER (Rd WQ) (κ (dcell c e j)) (dcell c e j) := by
  unfold records
  iintro ⟨H, -⟩
  iapply (inv_at WQ κ (dma_mem c e j)); iexact H
theorem reached_bar (κ : GSem nD τ sig → ℕ) (c : Dev nD) : records WQ κ ⊢ reached ER (barCell c) 0 := by
  unfold records
  iintro ⟨-, H⟩
  iapply (reached_at (F := F) c); iexact H

section Rules

variable (κ : GSem nD τ sig → ℕ) (c : Dev nD)

/-- What device `c` owes, whatever waits it has recorded. -/
def owesL (l : List Debt) : sProp 𝕄 := iprop(∃ W, owes (c : Thread nD τ) (tal c l) W)

/-- A transfer along ring `e`: send semaphore `j` here, arrival semaphore `j'` there. -/
theorem send_wp (e : Bool) (j j' : Fin 9) (hj : live j) (hj' : live j') (ha : amt j = amt j') {s : Shape} (d : Dev nD) (hd : d = nxt e c)
    (src dst : Memref sig .tc .vmem s .bf16) (es : src.view.WordExact) (ed : dst.view.WordExact) (q : PosShare TreeShare) (X : Vec F s .bf16)
    (hN : dst.view.dmaCredit = amt j') (s4 s5 : DmaSem sig) (h4 : s4 = dsem e j) (h5 : s5 = dsem e j')
    (hp1 : owns (c : Thread nD τ) src q X ⊢ dirPay WQ c e j.val)
    (hp2 : owns (nxt e c : Thread nD τ) dst fullShare X ⊢ dirPay WQ (nxt e c) e j'.val) (l : List Debt) (Q : PUnit → sProp 𝕄) (k : P F) :
    iprop(records WQ κ ∗ owns (c : Thread nD τ) src q X ∗ anyAt (dst.view.loc (nxt e c : Thread nD τ)) dst.view.set fullShare
        ∗ owesL c (dR e j' :: l) ∗ dutyTok ER (dcell c e j) 0 true ∗ reached ER (dcell c e j) 0
        ∗ dutyTok ER (dcell (nxt e c) e j') 0 true ∗ reached ER (dcell (nxt e c) e j') 0)
      ⊢ iprop(((cred (tallyAt (dcell c e j) () (amt j)) ∗ owesL c l) -∗ WP c k Q) -∗ WP c (send d src dst es ed s4 s5 k) Q) := by
  subst hd h4 h5
  unfold owns anyAt owesL send
  iintro ⟨#HR, ⟨%f, %hf, Hs⟩, ⟨%fd, Hd⟩, ⟨%W, HO⟩, Ht1, #Hr1, Ht2, #Hr2⟩ Hk
  iapply (Rounds.wp_send_pointsTo 𝒱₀ ER (Rd WQ) (c : Thread nD τ) none (c' := (nxt e c : Thread nD τ)) (src := src) (dst := dst)
      (sS := .dma (dsem e j)) (sem := .dma (dsem e j')) (q := q) (fs := f) (κ₁ := κ (dcell c e j)) (κ₂ := κ (dcell (nxt e c) e j'))
      (r₁ := 0) (r₂ := 0) (d₁ := true) (d₂ := true) (fd := fd)
      (by rw [duties_dma WQ c e j hj]; exact Finset.mem_singleton_self _) (by rw [duties_dma WQ (nxt e c) e j' hj']; exact Finset.mem_singleton_self _)
      () () (amt j') hN ((amount_dma WQ c e j true).trans ha) (amount_dma WQ (nxt e c) e j' true) (tal c l) rfl (W := W)
      (by
        rw [payload_dma]
        refine BIBase.Entails.trans ?_ hp1
        rw [← hf]; exact owns_intro (c : Thread nD τ) src q f)
      (by
        rw [payload_dma]
        refine BIBase.Entails.trans ?_ hp2
        have h : _ ⊢ (owns (nxt e c : Thread nD τ) dst fullShare (dst.view.read (Elt F) (dst.view.write (Elt F) fd (src.view.read (Elt F) f) Finset.univ)) : sProp 𝕄) :=
          owns_intro (nxt e c : Thread nD τ) dst fullShare (dst.view.write (Elt F) fd (src.view.read (Elt F) f) Finset.univ)
        rw [View.read_write_univ] at h
        subst hf
        exact h)) $$ [Hs Hd HO Ht1 Ht2]
  · isplitr; · iapply (inv_dma WQ κ c e j); iexact HR
    isplitr; · iapply (inv_dma WQ κ (nxt e c) e j'); iexact HR
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · rw [ha]; iexact Hc
  iexists W; iexact HO

/-- A wait on a transfer semaphore. -/
theorem wait_wp (e : Bool) (j : Fin 9) (hj : live j) {s : Shape} (a b : Memref sig .tc .vmem s .bf16) (ea : a.view.WordExact) (eb : b.view.WordExact)
    (hN : b.view.dmaCredit = amt j) (sm : DmaSem sig) (hs : sm = dsem e j) (l : List Debt) (hl : ∀ x ∈ l, slv (.dma (dsem e j)) < slv x.2.1)
    (Q : PUnit → sProp 𝕄) (k : PUnit → P F) :
    iprop(records WQ κ ∗ levAts L lv ∗ cred (tallyAt (dcell c e j) () (amt j)) ∗ owesL c l ∗ atPos ER (dcell c e j) 0 ∅ 0)
      ⊢ iprop(((owesL c l ∗ atPos ER (dcell c e j) 1 ∅ 0 ∗ dirPay WQ c e j.val) -∗ WP c (k ⟨⟩) Q)
        -∗ WP c (.op (.waitDma2 sm a b ea eb) k) Q) := by
  subst hs
  unfold owesL
  iintro ⟨#HR, #Hlev, Hc, ⟨%W, HO⟩, Hat⟩ Hk
  iapply (Rounds.wp_wait_rest_token 𝒱₀ ER (Rd WQ) (c : Thread nD τ) none (κ := κ (dcell c e j))
      (wpE_waitDma2_eq (src := a) (dst := b) 𝒱₀ (c : Thread nD τ) none Set.univ) (Set.mem_univ _) () (O := tal c l) (W := W) (R := 0) (m := 0) (T := ∅)
      (by rw [Nat.zero_add, hN, expect_dma WQ c e j hj])) $$ [Hc HO Hat]
  · isplitr; · iapply (inv_dma WQ κ c e j); iexact HR
    isplitl [Hc]; · rw [hN]; iexact Hc
    isplitl [HO]; · iexact HO
    isplitr; · iapply (mayWait (F := F) c (.dma (dsem e j)) l hl); iexact Hlev
    iexact Hat
  iintro ⟨HO, Hat, -, Hpay⟩
  iapply Hk
  isplitl [HO]; · iexists _; iexact HO
  isplitl [Hat]; · iexact Hat
  iapply (Entails.of_eq (rest_dma WQ c e j hj)); iexact Hpay

end Rules

end Cert.KernelIdeal.Body

end
-- ==== Proof.Run.lean ====
module

public import proofs.«01_k».proof.Proof.Talk

/-!
# The body, run

The handshake with both neighbours, then four rounds: in each, a transfer along either ring, the groups of the
blocks that have come, and the round's waits; the last group after the last round.
-/

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-- The send and the arrival semaphore of a round. -/
abbrev jS (r : Fin 4) : Fin 9 := ⟨r.val, by have := r.isLt; omega⟩
abbrev jR (r : Fin 4) : Fin 9 := ⟨r.val + 5, by have := r.isLt; omega⟩

theorem live_S : ∀ r : Fin 4, live (jS r) := by decide
theorem live_R : ∀ r : Fin 4, live (jR r) := by decide
theorem amt_S (r : Fin 4) : amt (jS r) = amt (jR r) := by
  match r with
  | 0 => rfl
  | 1 => rfl
  | 2 => rfl
  | 3 => rfl

theorem sem_SR : ∀ r : Fin 4, sem4 cc0_scratch4 r = dsem true (jS r) := by decide
theorem sem_RR : ∀ r : Fin 4, sem5 cc0_scratch5 r.succ = dsem true (jR r) := by decide
theorem sem_SL : ∀ r : Fin 4, sem4 cc0_scratch6 r = dsem false (jS r) := by decide
theorem sem_RL : ∀ r : Fin 4, sem5 cc0_scratch7 r.succ = dsem false (jR r) := by decide

variable (WQ : Dev nD → Vec F S2x512x768 .bf16)

/-- What a device holds for a round on a ring before its transfer, after it, and after the waits. -/
def ready (c : Dev nD) (e : Bool) (r : Fin 4) : sProp 𝕄 :=
  iprop(cred (tallyAt (dcell c e (jR r)) () (amt (jR r))) ∗ atPos ER (dcell c e (jS r)) 0 ∅ 0 ∗ atPos ER (dcell c e (jR r)) 0 ∅ 0
    ∗ dutyTok ER (dcell c e (jS r)) 0 true ∗ dutyTok ER (dcell (nxt e c) e (jR r)) 0 true ∗ reached ER (dcell c e (jS r)) 0)
def sent (c : Dev nD) (e : Bool) (r : Fin 4) : sProp 𝕄 :=
  iprop(cred (tallyAt (dcell c e (jS r)) () (amt (jS r))) ∗ cred (tallyAt (dcell c e (jR r)) () (amt (jR r)))
    ∗ atPos ER (dcell c e (jS r)) 0 ∅ 0 ∗ atPos ER (dcell c e (jR r)) 0 ∅ 0)
def through (c : Dev nD) (e : Bool) (r : Fin 4) : sProp 𝕄 :=
  iprop(atPos ER (dcell c e (jS r)) 1 ∅ 0 ∗ atPos ER (dcell c e (jR r)) 1 ∅ 0)

section Rules

variable (κ : GSem nD τ sig → ℕ) (c : Dev nD)

theorem sendR_wp (e : Bool) (r : Fin 4) {s : Shape} (d : Dev nD) (hd : d = nxt e c)
    (src dst : Memref sig .tc .vmem s .bf16) (es : src.view.WordExact) (ed : dst.view.WordExact) (q : PosShare TreeShare) (X : Vec F s .bf16)
    (hN : dst.view.dmaCredit = amt (jR r)) (s4 s5 : DmaSem sig) (h4 : s4 = dsem e (jS r)) (h5 : s5 = dsem e (jR r))
    (hp1 : owns (c : Thread nD τ) src q X ⊢ dirPay WQ c e r.val)
    (hp2 : owns (nxt e c : Thread nD τ) dst fullShare X ⊢ dirPay WQ (nxt e c) e (r.val + 5)) (l : List Debt) (Q : PUnit → sProp 𝕄) (k : P F) :
    iprop(records WQ κ ∗ ready c e r ∗ owns (c : Thread nD τ) src q X ∗ anyAt (dst.view.loc (nxt e c : Thread nD τ)) dst.view.set fullShare
        ∗ reached ER (dcell (nxt e c) e (jR r)) 0 ∗ owesL c (dR e (jR r) :: l))
      ⊢ iprop(((sent c e r ∗ owesL c l) -∗ WP c k Q) -∗ WP c (send d src dst es ed s4 s5 k) Q) := by
  unfold ready sent
  iintro ⟨#HR, ⟨Hc, Ha1, Ha2, Ht1, Ht2, #Hr1⟩, Hs, Hd, #Hr2, HO⟩ Hk
  iapply (send_wp WQ κ c e (jS r) (jR r) (live_S r) (live_R r) (amt_S r) d hd src dst es ed q X hN s4 s5 h4 h5 hp1 hp2 l Q k) $$ [Hs Hd HO Ht1 Ht2]
  · isplitr; · iexact HR
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcs, HO⟩
  iapply Hk
  isplitr [HO]
  · isplitl [Hcs]; · iexact Hcs
    isplitl [Hc]; · iexact Hc
    isplitl [Ha1]; · iexact Ha1
    iexact Ha2
  iexact HO

/-- The four waits that end a round. -/
theorem waits_wp (r : Fin 4) {s : Shape} (srcR dstR srcL dstL : Memref sig .tc .vmem s .bf16) (eR : srcR.view.WordExact) (eR' : dstR.view.WordExact)
    (eL : srcL.view.WordExact) (eL' : dstL.view.WordExact)
    (h1 : srcR.view.dmaCredit = amt (jS r)) (h2 : dstR.view.dmaCredit = amt (jR r)) (h3 : srcL.view.dmaCredit = amt (jS r)) (h4 : dstL.view.dmaCredit = amt (jR r))
    (l : List Debt) (hl : ∀ e : Bool, ∀ x ∈ l, slv (.dma (dsem e (jS r))) < slv x.2.1 ∧ slv (.dma (dsem e (jR r))) < slv x.2.1)
    (Q : PUnit → sProp 𝕄) (k : P F) :
    iprop(records WQ κ ∗ levAts L lv ∗ sent c true r ∗ sent c false r ∗ owesL c l)
      ⊢ iprop(((through c true r ∗ through c false r ∗ owesL c l ∗ dirPay WQ c true r.val ∗ dirPay WQ c true (r.val + 5)
          ∗ dirPay WQ c false r.val ∗ dirPay WQ c false (r.val + 5)) -∗ WP c k Q)
        -∗ WP c (waits cc0_scratch4 cc0_scratch5 cc0_scratch6 cc0_scratch7 srcR dstR srcL dstL eR eR' eL eL' r k) Q) := by
  unfold sent through waits
  iintro ⟨#HR, #Hlev, ⟨Hcs, Hcr, Has, Har⟩, ⟨Hcs', Hcr', Has', Har'⟩, HO⟩ Hk
  iapply (wait_wp WQ κ c true (jS r) (live_S r) dstR srcR eR' eR h1 _ (sem_SR r) l (fun x hx => (hl true x hx).1) Q _) $$ [Hcs HO Has]
  · isplitr; · iexact HR
    isplitr; · iexact Hlev
    isplitl [Hcs]; · iexact Hcs
    isplitl [HO]; · iexact HO
    iexact Has
  iintro ⟨HO, Has, HP1⟩
  iapply (wait_wp WQ κ c true (jR r) (live_R r) srcR dstR eR eR' h2 _ (sem_RR r) l (fun x hx => (hl true x hx).2) Q _) $$ [Hcr HO Har]
  · isplitr; · iexact HR
    isplitr; · iexact Hlev
    isplitl [Hcr]; · iexact Hcr
    isplitl [HO]; · iexact HO
    iexact Har
  iintro ⟨HO, Har, HP2⟩
  iapply (wait_wp WQ κ c false (jS r) (live_S r) dstL srcL eL' eL h3 _ (sem_SL r) l (fun x hx => (hl false x hx).1) Q _) $$ [Hcs' HO Has']
  · isplitr; · iexact HR
    isplitr; · iexact Hlev
    isplitl [Hcs']; · iexact Hcs'
    isplitl [HO]; · iexact HO
    iexact Has'
  iintro ⟨HO, Has', HP3⟩
  iapply (wait_wp WQ κ c false (jR r) (live_R r) srcL dstL eL eL' h4 _ (sem_RL r) l (fun x hx => (hl false x hx).2) Q _) $$ [Hcr' HO Har']
  · isplitr; · iexact HR
    isplitr; · iexact Hlev
    isplitl [Hcr']; · iexact Hcr'
    isplitl [HO]; · iexact HO
    iexact Har'
  iintro ⟨HO, Har', HP4⟩
  iapply Hk
  isplitl [Has Har]
  · isplitl [Has]; · iexact Has
    iexact Har
  isplitl [Has' Har']
  · isplitl [Has']; · iexact Has'
    iexact Har'
  isplitl [HO]; · iexact HO
  isplitl [HP1]; · iexact HP1
  isplitl [HP2]; · iexact HP2
  isplitl [HP3]; · iexact HP3
  iexact HP4

/-- A signal to a neighbour's barrier: what is lent of ring `e`'s buffer goes with it. -/
theorem signal_wp (e : Bool) (d : Dev nD) (hd : d = nxt (!e) c) (l : List Debt) (Q : PUnit → sProp 𝕄) (k : P F) :
    iprop(records WQ κ ∗ owesL c ((!e, .reg barS, 1) :: l) ∗ dutyTok ER (barCell (nxt (!e) c)) 0 e ∗ lend c e)
      ⊢ iprop((owesL c l -∗ WP c k Q) -∗ WP c ((semSignalWord d barS 1#32).bind fun _ => k) Q) := by
  subst hd
  unfold owesL
  iintro ⟨#HR, ⟨%W, HO⟩, Ht, Hl⟩ Hk
  rw [show ((semSignalWord (nxt (!e) c) barS 1#32 : P F).bind fun _ => k) = .op (.semSignal (nxt (!e) c, .tc) barS ((1 : ℕ) : Int)) fun _ => k from rfl]
  iapply (Rounds.wp_signal 𝒱₀ ER (Rd WQ) (c : Thread nD τ) none (dst := (nxt (!e) c : Thread nD τ)) (sem := barS) (r := 0) (d := e) (κ := κ (barCell (nxt (!e) c)))
      (by rw [duties_bar]; exact Finset.mem_univ _) (amount_bar WQ (nxt (!e) c) e) () (tal c l) rfl (W := W)) $$ [HO Ht Hl]
  · isplitr; · iapply (inv_bar WQ κ (nxt (!e) c)); iexact HR
    isplitl [HO]; · iexact HO
    isplitl [Ht]; · iexact Ht
    isplitl [Hl]
    · rw [payload_bar, show nxt e (nxt (!e) c) = c by have h := nxt_nxt (!e) c; rwa [Bool.not_not] at h]
      iexact Hl
    iapply (reached_bar WQ κ (nxt (!e) c)); iexact HR
  iintro HO
  iapply Hk
  iexists W; iexact HO

/-- The wait for both neighbours: what they lend comes with it. -/
theorem barrier_wp (l : List Debt) (hl : ∀ x ∈ l, slv (.reg barS) < slv x.2.1) (Q : PUnit → sProp 𝕄) (k : P F) :
    iprop(records WQ κ ∗ levAts L lv ∗ cred (tallyAt (barCell c) () 2) ∗ owesL c l ∗ atPos ER (barCell c) 0 ∅ 0)
      ⊢ iprop(((owesL c l ∗ atPos ER (barCell c) 1 ∅ 0 ∗ lend (nxt true c) true ∗ lend (nxt false c) false) -∗ WP c k Q)
        -∗ WP c ((semWaitWord barS 2#32).bind fun _ => k) Q) := by
  unfold owesL
  iintro ⟨#HR, #Hlev, Hc, ⟨%W, HO⟩, Hat⟩ Hk
  rw [show ((semWaitWord barS 2#32 : P F).bind fun _ => k) = .op (.semWait barS ((2 : ℕ) : Int)) fun _ => k from rfl]
  iapply (Rounds.wp_wait_rest_token 𝒱₀ ER (Rd WQ) (c : Thread nD τ) none (κ := κ (barCell c))
      (wpE_semWait_eq 𝒱₀ (c : Thread nD τ) none Set.univ) (Set.mem_univ _) () (O := tal c l) (W := W) (R := 0) (m := 0) (T := ∅)
      ((Nat.zero_add 2).trans (expect_bar WQ c).symm)) $$ [Hc HO Hat]
  · isplitr; · iapply (inv_bar WQ κ c); iexact HR
    isplitl [Hc]; · iexact Hc
    isplitl [HO]; · iexact HO
    isplitr; · iapply (mayWait (F := F) c (.reg barS) l hl); iexact Hlev
    iexact Hat
  iintro ⟨HO, Hat, -, Hpay⟩
  iapply Hk
  isplitl [HO]; · iexists _; iexact HO
  isplitl [Hat]; · iexact Hat
  iapply (Entails.of_eq (rest_bar WQ c)); iexact Hpay

end Rules

end Cert.KernelIdeal.Body

end
-- ==== Proof.Sound.lean ====
module

public import proofs.«01_k».proof.Proof.Run

/-!
# The whole body

The body from its entry to its return on a device not chosen: what it holds at entry comes back, the result's
staging buffer holds the eight blocks' parts added in the order they came.
-/

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (WQ : Dev nD → Vec F S2x512x768 .bf16)

/-- The result: the device's own block's part, then the others' as they come, from the left and from the right in turn. -/
def outV (c : Dev nD) (X : Vec F S2x512x768 .bf16) (K : Vec F S64x2x64x512 .bf16) (V : Vec F S64x2x65x512 .bf16) : Vec F S2x512x768 .f32 :=
  partAdd (offsL c 3) K V X
    (partAdd (offsL c 2) K V X
      (partAdd (offsR c 2) K V X
        (partAdd (offsL c 1) K V X
          (partAdd (offsR c 1) K V X
            (partAdd (offsL c 0) K V X
              (partAdd (offsR c 0) K V X
                (partPut (offs0 c) K V X (wHalf (WQ c) 0) (wHalf (WQ c) 1))
                (wHalf (WQ (src true 1 c)) 0) (wHalf (WQ (src true 1 c)) 1))
              (wHalf (WQ (src false 1 c)) 0) (wHalf (WQ (src false 1 c)) 1))
            (wHalf (WQ (src true 2 c)) 0) (wHalf (WQ (src true 2 c)) 1))
          (wHalf (WQ (src false 2 c)) 0) (wHalf (WQ (src false 2 c)) 1))
        (wHalf (WQ (src true 3 c)) 0) (wHalf (WQ (src true 3 c)) 1))
      (wHalf (WQ (src false 3 c)) 0) (wHalf (WQ (src false 3 c)) 1))
    (wHalf (WQ (src true 4 c)) 0) (wHalf (WQ (src false 4 c)) 1)

section Pays

variable (c : Dev nD) (e : Bool)

/-- A block landed on the neighbour is what its arrival is to be paid. -/
theorem land0 : owns (nxt e c : Thread nD τ) (slot (buf e) 1) fullShare (WQ c) ⊢ dirPay WQ (nxt e c) e 5 :=
  Entails.of_eq (by
    show _ = sOwns (nxt e c) (buf e) 1 fullShare (WQ (src e 1 (nxt e c)))
    rw [show src e 1 (nxt e c) = c from (src_next e 0 c).trans (src_zero e c)])
theorem land1 : owns (nxt e c : Thread nD τ) (slot (buf e) 2) fullShare (WQ (src e 1 c)) ⊢ dirPay WQ (nxt e c) e 6 :=
  Entails.of_eq (by
    show _ = sOwns (nxt e c) (buf e) 2 fullShare (WQ (src e 2 (nxt e c)))
    rw [show src e 2 (nxt e c) = src e 1 c from src_next e 1 c])
theorem land2 : owns (nxt e c : Thread nD τ) (slot (buf e) 3) fullShare (WQ (src e 2 c)) ⊢ dirPay WQ (nxt e c) e 7 :=
  Entails.of_eq (by
    show _ = sOwns (nxt e c) (buf e) 3 fullShare (WQ (src e 3 (nxt e c)))
    rw [show src e 3 (nxt e c) = src e 2 c from src_next e 2 c])
theorem land3 : owns (nxt e c : Thread nD τ) (half (buf e) 4 (gOf e)) fullShare (wHalf (WQ (src e 3 c)) (gOf e)) ⊢ dirPay WQ (nxt e c) e 8 :=
  Entails.of_eq (by
    show _ = hOwns (nxt e c) (buf e) 4 (gOf e) fullShare (wHalf (WQ (src e 4 (nxt e c))) (gOf e))
    rw [show src e 4 (nxt e c) = src e 3 c from src_next e 3 c])

end Pays

/-- The device's own block in three shares: kept, and one for each ring's first transfer. -/
theorem own_cut (c : Dev nD) (Y : Vec F S2x512x768 .bf16) :
    owns (c : Thread nD τ) a1 fullShare Y ⊢ (iprop(owns (c : Thread nD τ) a1 fullShare.left Y ∗ owns (c : Thread nD τ) a1 (qOwn true) Y ∗ owns (c : Thread nD τ) a1 (qOwn false) Y) : sProp 𝕄) := by
  iintro H
  ihave H := (owns_halves (c : Thread nD τ) a1 fullShare Y).1 $$ H
  icases H with ⟨H1, H⟩
  ihave H := (owns_halves (c : Thread nD τ) a1 fullShare.right Y).1 $$ H
  icases H with ⟨H2, H3⟩
  isplitl [H1]; · iexact H1
  isplitl [H2]; · iexact H2
  iexact H3
theorem own_glue (c : Dev nD) (Y : Vec F S2x512x768 .bf16) :
    (iprop(owns (c : Thread nD τ) a1 fullShare.left Y ∗ owns (c : Thread nD τ) a1 (qOwn true) Y ∗ owns (c : Thread nD τ) a1 (qOwn false) Y) : sProp 𝕄) ⊢ owns (c : Thread nD τ) a1 fullShare Y := by
  iintro ⟨H1, H2, H3⟩
  iapply (owns_halves (c : Thread nD τ) a1 fullShare Y).2
  isplitl [H1]; · iexact H1
  iapply (owns_halves (c : Thread nD τ) a1 fullShare.right Y).2
  isplitl [H2]; · iexact H2
  iexact H3

theorem own_pt (c : Dev nD) (q : PosShare TreeShare) (Y : Vec F S2x512x768 .bf16) :
    (owns (c : Thread nD τ) a1 q Y : sProp 𝕄) = (a1.view.loc (c : Thread nD τ) ↦[Finset.univ]{q} Y) := owns_whole (c : Thread nD τ) cc0_stg1_0 q Y

section Whole

variable (κ : GSem nD τ sig → ℕ) (c : Dev nD) (X : Vec F S2x512x768 .bf16) (K : Vec F S64x2x64x512 .bf16) (V : Vec F S64x2x65x512 .bf16)

/-- A ring's part of what the body holds at entry. -/
def ringPre (e : Bool) : sProp 𝕄 :=
  iprop(dutyTok ER (barCell (nxt (!e) c)) 0 e ∗ (ready c e 0 ∗ ready c e 1 ∗ ready c e 2 ∗ ready c e 3)
    ∗ (reached ER (dcell c e 5) 0 ∗ reached ER (dcell c e 6) 0 ∗ reached ER (dcell c e 7) 0 ∗ reached ER (dcell c e 8) 0) ∗ bufAny c e)
/-- And at its return. -/
def ringPost (e : Bool) : sProp 𝕄 :=
  iprop((through c e 0 ∗ through c e 1 ∗ through c e 2 ∗ through c e 3) ∗ bufAny c e)

def bodyPre (f : Vec F S2x512x768 .f32) : sProp 𝕄 :=
  iprop(records WQ κ ∗ levAts L lv ∗ (atPos ER (barCell c) 0 ∅ 0 ∗ cred (tallyAt (barCell c) () 2)) ∗ ringPre c true ∗ ringPre c false
    ∗ owesL c debts ∗ owns (c : Thread nD τ) a1 fullShare (WQ c) ∗ R c K V X ∗ pt c cc0_stg4_0 f)
def bodyPost : sProp 𝕄 :=
  iprop(atPos ER (barCell c) 1 ∅ 0 ∗ ringPost (F := F) c true ∗ ringPost c false
    ∗ owesL c [] ∗ owns (c : Thread nD τ) a1 fullShare (WQ c) ∗ R c K V X ∗ pt c cc0_stg4_0 (outV WQ c X K V))

theorem device_wp (Q : PUnit → sProp 𝕄) (k : Dev nD → P F) : WP c (.op .deviceId k) Q = WP c (k c) Q := by
  unfold WP; rw [wp_deviceId]
theorem ret_wp (Q : PUnit → sProp 𝕄) : (|={Set.univ}=> Q ⟨⟩) ⊢ WP c (.ret ⟨⟩) Q := by
  unfold WP; rw [wp_ret]

abbrev wholeP : P F := whole a0 a1 (Memref.isWhole_whole _) a2 a3 a4 a5 w5 a6 w6 a7 w7 a8 w8 cc0_scratch4 cc0_scratch5 cc0_scratch6 cc0_scratch7

set_option maxHeartbeats 4000000 in
theorem whole_wp (f : Vec F S2x512x768 .f32) (Q : PUnit → sProp 𝕄) :
    iprop(bodyPre WQ κ c X K V f ∗ (bodyPost WQ c X K V -∗ |={Set.univ}=> Q ⟨⟩)) ⊢ WP c wholeP Q := by
  unfold wholeP whole
  rw [device_wp]
  unfold bodyPre ringPre
  iintro ⟨⟨#HR, #Hlev, ⟨HatB, HcB⟩, ⟨HtT, ⟨HT0, HT1, HT2, HT3⟩, ⟨#HqT5, #HqT6, #HqT7, #HqT8⟩, HbT⟩, ⟨HtF, ⟨HF0, HF1, HF2, HF3⟩, ⟨#HqF5, #HqF6, #HqF7, #HqF8⟩, HbF⟩,
    HO, H1, HG, H4⟩, Hk⟩
  ihave HbT := (buf_cut (F := F) c true) $$ HbT
  icases HbT with ⟨HlT, HrestT⟩
  ihave HbF := (buf_cut (F := F) c false) $$ HbF
  icases HbF with ⟨HlF, HrestF⟩
  iapply (signal_wp WQ κ c true _ (dev1_eq c) ((true, .reg barS, 1) :: debts1) Q _) $$ [HO HtT HlT]
  · isplitr; · iexact HR
    isplitl [HO]; · iexact HO
    isplitl [HtT]; · iexact HtT
    unfold lend
    isplitl [HlT]; · iexact HlT
    isplitr; · iexact HqT5
    isplitr; · iexact HqT6
    isplitr; · iexact HqT7
    iexact HqT8
  iintro HO
  iapply (signal_wp WQ κ c false _ (dev2_eq c) debts1 Q _) $$ [HO HtF HlF]
  · isplitr; · iexact HR
    isplitl [HO]; · iexact HO
    isplitl [HtF]; · iexact HtF
    unfold lend
    isplitl [HlF]; · iexact HlF
    isplitr; · iexact HqF5
    isplitr; · iexact HqF6
    isplitr; · iexact HqF7
    iexact HqF8
  iintro HO
  iapply (barrier_wp WQ κ c debts1 (by decide) Q _) $$ [HcB HO HatB]
  · isplitr; · iexact HR
    isplitr; · iexact Hlev
    isplitl [HcB]; · iexact HcB
    isplitl [HO]; · iexact HO
    iexact HatB
  iintro ⟨HO, HatB, HnT, HnF⟩
  unfold lend
  icases HnT with ⟨⟨HnT1, HnT2, HnT3, HnT4⟩, #HpT5, #HpT6, #HpT7, #HpT8⟩
  icases HnF with ⟨⟨HnF1, HnF2, HnF3, HnF4⟩, #HpF5, #HpF6, #HpF7, #HpF8⟩
  ihave H1 := (own_cut (F := F) c (WQ c)) $$ H1
  icases H1 with ⟨H1, HsT0, HsF0⟩
  unfold rounds
  iapply (sendR_wp WQ κ c true 0 _ (dev3_eq c) a1 (slot a5 1) _ _ (qOwn true) (WQ c) rfl _ _ (sem_SR 0) (sem_RR 0)
    BIBase.Entails.refl (land0 WQ c true) (dR false 5 :: debts2) Q _) $$ [HT0 HsT0 HnT1 HO]
  · isplitr; · iexact HR
    isplitl [HT0]; · iexact HT0
    isplitl [HsT0]; · iexact HsT0
    isplitl [HnT1]; · iexact HnT1
    isplitr; · iexact HpT5
    iexact HO
  iintro ⟨HT0, HO⟩
  iapply (sendR_wp WQ κ c false 0 _ (dev4_eq c) a1 (slot a6 1) _ _ (qOwn false) (WQ c) rfl _ _ (sem_SL 0) (sem_RL 0)
    BIBase.Entails.refl (land0 WQ c false) debts2 Q _) $$ [HF0 HsF0 HnF1 HO]
  · isplitr; · iexact HR
    isplitl [HF0]; · iexact HF0
    isplitl [HsF0]; · iexact HsF0
    isplitl [HnF1]; · iexact HnF1
    isplitr; · iexact HpF5
    iexact HO
  iintro ⟨HF0, HO⟩
  ihave H1 := (Entails.of_eq (own_pt (F := F) c fullShare.left (WQ c))) $$ H1
  iapply (first_wp c (offs0 c) K V X fullShare.left (WQ c) Q _ _) $$ [H1 HG H4]
  · isplitl [H1]; · iexact H1
    isplitl [HG]; · iexact HG
    iexact H4
  iintro ⟨H1, HG, H4⟩
  iapply (waits_wp WQ κ c 0 a1 (slot a5 1) a1 (slot a6 1) _ _ _ _ rfl rfl rfl rfl debts2 (by decide) Q _) $$ [HT0 HF0 HO]
  · isplitr; · iexact HR
    isplitr; · iexact Hlev
    isplitl [HT0]; · iexact HT0
    isplitl [HF0]; · iexact HF0
    iexact HO
  iintro ⟨HT0, HF0, HO, HsT0, HlT1, HsF0, HlF1⟩
  ihave HsT0 := (Entails.of_eq (show dirPay WQ c true ((0 : Fin 4)).val = (owns (c : Thread nD τ) a1 (qOwn true) (WQ c) : sProp 𝕄) from rfl)) $$ HsT0
  ihave HlT1 := (Entails.of_eq (show dirPay WQ c true (((0 : Fin 4)).val + 5) = sOwns (F := F) c (buf true) 1 fullShare (WQ (src true 1 c)) from rfl)) $$ HlT1
  ihave HlT1 := (slot_halves (F := F) c true 1 _) $$ HlT1
  icases HlT1 with ⟨HkT1, HsT1⟩
  ihave HsF0 := (Entails.of_eq (show dirPay WQ c false ((0 : Fin 4)).val = (owns (c : Thread nD τ) a1 (qOwn false) (WQ c) : sProp 𝕄) from rfl)) $$ HsF0
  ihave HlF1 := (Entails.of_eq (show dirPay WQ c false (((0 : Fin 4)).val + 5) = sOwns (F := F) c (buf false) 1 fullShare (WQ (src false 1 c)) from rfl)) $$ HlF1
  ihave HlF1 := (slot_halves (F := F) c false 1 _) $$ HlF1
  icases HlF1 with ⟨HkF1, HsF1⟩
  iapply (sendR_wp WQ κ c true 1 _ (dev5_eq c) (slot a5 1) (slot a5 2) _ _ fullShare.right (WQ (src true 1 c)) rfl _ _ (sem_SR 1) (sem_RR 1)
    BIBase.Entails.refl (land1 WQ c true) (dR false 6 :: debts3) Q _) $$ [HT1 HsT1 HnT2 HO]
  · isplitr; · iexact HR
    isplitl [HT1]; · iexact HT1
    isplitl [HsT1]; · iexact HsT1
    isplitl [HnT2]; · iexact HnT2
    isplitr; · iexact HpT6
    iexact HO
  iintro ⟨HT1, HO⟩
  iapply (sendR_wp WQ κ c false 1 _ (dev6_eq c) (slot a6 1) (slot a6 2) _ _ fullShare.right (WQ (src false 1 c)) rfl _ _ (sem_SL 1) (sem_RL 1)
    BIBase.Entails.refl (land1 WQ c false) debts3 Q _) $$ [HF1 HsF1 HnF2 HO]
  · isplitr; · iexact HR
    isplitl [HF1]; · iexact HF1
    isplitl [HsF1]; · iexact HsF1
    isplitl [HnF2]; · iexact HnF2
    isplitr; · iexact HpF6
    iexact HO
  iintro ⟨HF1, HO⟩
  iapply (laterA_wp c (offsR c 0) K V X a5 1 fullShare.left (WQ (src true 1 c)) Q _ _) $$ [HkT1 HG H4]
  · isplitl [HkT1]; · iexact HkT1
    isplitl [HG]; · iexact HG
    iexact H4
  iintro ⟨HkT1, HG, H4⟩
  iapply (laterA_wp c (offsL c 0) K V X a6 1 fullShare.left (WQ (src false 1 c)) Q _ _) $$ [HkF1 HG H4]
  · isplitl [HkF1]; · iexact HkF1
    isplitl [HG]; · iexact HG
    iexact H4
  iintro ⟨HkF1, HG, H4⟩
  iapply (waits_wp WQ κ c 1 (slot a5 1) (slot a5 2) (slot a6 1) (slot a6 2) _ _ _ _ rfl rfl rfl rfl debts3 (by decide) Q _) $$ [HT1 HF1 HO]
  · isplitr; · iexact HR
    isplitr; · iexact Hlev
    isplitl [HT1]; · iexact HT1
    isplitl [HF1]; · iexact HF1
    iexact HO
  iintro ⟨HT1, HF1, HO, HsT1, HlT2, HsF1, HlF2⟩
  ihave HsT1 := (Entails.of_eq (show dirPay WQ c true ((1 : Fin 4)).val = (owns (c : Thread nD τ) (slot a5 1) fullShare.right (WQ (src true 1 c)) : sProp 𝕄) from rfl)) $$ HsT1
  ihave HlT2 := (Entails.of_eq (show dirPay WQ c true (((1 : Fin 4)).val + 5) = sOwns (F := F) c (buf true) 2 fullShare (WQ (src true 2 c)) from rfl)) $$ HlT2
  ihave HlT2 := (slot_halves (F := F) c true 2 _) $$ HlT2
  icases HlT2 with ⟨HkT2, HsT2⟩
  ihave HsF1 := (Entails.of_eq (show dirPay WQ c false ((1 : Fin 4)).val = (owns (c : Thread nD τ) (slot a6 1) fullShare.right (WQ (src false 1 c)) : sProp 𝕄) from rfl)) $$ HsF1
  ihave HlF2 := (Entails.of_eq (show dirPay WQ c false (((1 : Fin 4)).val + 5) = sOwns (F := F) c (buf false) 2 fullShare (WQ (src false 2 c)) from rfl)) $$ HlF2
  ihave HlF2 := (slot_halves (F := F) c false 2 _) $$ HlF2
  icases HlF2 with ⟨HkF2, HsF2⟩
  iapply (sendR_wp WQ κ c true 2 _ (dev7_eq c) (slot a5 2) (slot a5 3) _ _ fullShare.right (WQ (src true 2 c)) rfl _ _ (sem_SR 2) (sem_RR 2)
    BIBase.Entails.refl (land2 WQ c true) (dR false 7 :: debts4) Q _) $$ [HT2 HsT2 HnT3 HO]
  · isplitr; · iexact HR
    isplitl [HT2]; · iexact HT2
    isplitl [HsT2]; · iexact HsT2
    isplitl [HnT3]; · iexact HnT3
    isplitr; · iexact HpT7
    iexact HO
  iintro ⟨HT2, HO⟩
  iapply (sendR_wp WQ κ c false 2 _ (dev8_eq c) (slot a6 2) (slot a6 3) _ _ fullShare.right (WQ (src false 2 c)) rfl _ _ (sem_SL 2) (sem_RL 2)
    BIBase.Entails.refl (land2 WQ c false) debts4 Q _) $$ [HF2 HsF2 HnF3 HO]
  · isplitr; · iexact HR
    isplitl [HF2]; · iexact HF2
    isplitl [HsF2]; · iexact HsF2
    isplitl [HnF3]; · iexact HnF3
    isplitr; · iexact HpF7
    iexact HO
  iintro ⟨HF2, HO⟩
  iapply (laterA_wp c (offsR c 1) K V X a5 2 fullShare.left (WQ (src true 2 c)) Q _ _) $$ [HkT2 HG H4]
  · isplitl [HkT2]; · iexact HkT2
    isplitl [HG]; · iexact HG
    iexact H4
  iintro ⟨HkT2, HG, H4⟩
  iapply (laterA_wp c (offsL c 1) K V X a6 2 fullShare.left (WQ (src false 2 c)) Q _ _) $$ [HkF2 HG H4]
  · isplitl [HkF2]; · iexact HkF2
    isplitl [HG]; · iexact HG
    iexact H4
  iintro ⟨HkF2, HG, H4⟩
  iapply (waits_wp WQ κ c 2 (slot a5 2) (slot a5 3) (slot a6 2) (slot a6 3) _ _ _ _ rfl rfl rfl rfl debts4 (by decide) Q _) $$ [HT2 HF2 HO]
  · isplitr; · iexact HR
    isplitr; · iexact Hlev
    isplitl [HT2]; · iexact HT2
    isplitl [HF2]; · iexact HF2
    iexact HO
  iintro ⟨HT2, HF2, HO, HsT2, HlT3, HsF2, HlF3⟩
  ihave HsT2 := (Entails.of_eq (show dirPay WQ c true ((2 : Fin 4)).val = (owns (c : Thread nD τ) (slot a5 2) fullShare.right (WQ (src true 2 c)) : sProp 𝕄) from rfl)) $$ HsT2
  ihave HlT3 := (Entails.of_eq (show dirPay WQ c true (((2 : Fin 4)).val + 5) = sOwns (F := F) c (buf true) 3 fullShare (WQ (src true 3 c)) from rfl)) $$ HlT3
  ihave HlT3 := (slot_halves (F := F) c true 3 _) $$ HlT3
  icases HlT3 with ⟨HkT3, HsT3⟩
  ihave HsT3 := (slot3_cut (F := F) c true _) $$ HsT3
  icases HsT3 with ⟨HsT3, HoT3⟩
  ihave HsF2 := (Entails.of_eq (show dirPay WQ c false ((2 : Fin 4)).val = (owns (c : Thread nD τ) (slot a6 2) fullShare.right (WQ (src false 2 c)) : sProp 𝕄) from rfl)) $$ HsF2
  ihave HlF3 := (Entails.of_eq (show dirPay WQ c false (((2 : Fin 4)).val + 5) = sOwns (F := F) c (buf false) 3 fullShare (WQ (src false 3 c)) from rfl)) $$ HlF3
  ihave HlF3 := (slot_halves (F := F) c false 3 _) $$ HlF3
  icases HlF3 with ⟨HkF3, HsF3⟩
  ihave HsF3 := (slot3_cut (F := F) c false _) $$ HsF3
  icases HsF3 with ⟨HsF3, HoF3⟩
  iapply (sendR_wp WQ κ c true 3 _ (dev9_eq c) (half a5 3 0) (half a5 4 0) _ _ fullShare.right (wHalf (WQ (src true 3 c)) 0) rfl _ _ (sem_SR 3) (sem_RR 3)
    BIBase.Entails.refl (land3 WQ c true) [dR false 8] Q _) $$ [HT3 HsT3 HnT4 HO]
  · isplitr; · iexact HR
    isplitl [HT3]; · iexact HT3
    isplitl [HsT3]; · iexact HsT3
    isplitl [HnT4]; · iexact HnT4
    isplitr; · iexact HpT8
    iexact HO
  iintro ⟨HT3, HO⟩
  iapply (sendR_wp WQ κ c false 3 _ (dev10_eq c) (half a6 3 1) (half a6 4 1) _ _ fullShare.right (wHalf (WQ (src false 3 c)) 1) rfl _ _ (sem_SL 3) (sem_RL 3)
    BIBase.Entails.refl (land3 WQ c false) [] Q _) $$ [HF3 HsF3 HnF4 HO]
  · isplitr; · iexact HR
    isplitl [HF3]; · iexact HF3
    isplitl [HsF3]; · iexact HsF3
    isplitl [HnF4]; · iexact HnF4
    isplitr; · iexact HpF8
    iexact HO
  iintro ⟨HF3, HO⟩
  iapply (laterA_wp c (offsR c 2) K V X a5 3 fullShare.left (WQ (src true 3 c)) Q _ _) $$ [HkT3 HG H4]
  · isplitl [HkT3]; · iexact HkT3
    isplitl [HG]; · iexact HG
    iexact H4
  iintro ⟨HkT3, HG, H4⟩
  iapply (laterA_wp c (offsL c 2) K V X a6 3 fullShare.left (WQ (src false 3 c)) Q _ _) $$ [HkF3 HG H4]
  · isplitl [HkF3]; · iexact HkF3
    isplitl [HG]; · iexact HG
    iexact H4
  iintro ⟨HkF3, HG, H4⟩
  iapply (waits_wp WQ κ c 3 (half a5 3 0) (half a5 4 0) (half a6 3 1) (half a6 4 1) _ _ _ _ rfl rfl rfl rfl [] (by decide) Q _) $$ [HT3 HF3 HO]
  · isplitr; · iexact HR
    isplitr; · iexact Hlev
    isplitl [HT3]; · iexact HT3
    isplitl [HF3]; · iexact HF3
    iexact HO
  iintro ⟨HT3, HF3, HO, HsT3, HlT4, HsF3, HlF4⟩
  ihave HsT3 := (Entails.of_eq (show dirPay WQ c true ((3 : Fin 4)).val = (owns (c : Thread nD τ) (half a5 3 0) fullShare.right (wHalf (WQ (src true 3 c)) 0) : sProp 𝕄) from rfl)) $$ HsT3
  ihave HlT4 := (Entails.of_eq (show dirPay WQ c true (((3 : Fin 4)).val + 5) = hOwns (F := F) c (buf true) 4 (gOf true) fullShare (wHalf (WQ (src true 4 c)) (gOf true)) from rfl)) $$ HlT4
  ihave HsF3 := (Entails.of_eq (show dirPay WQ c false ((3 : Fin 4)).val = (owns (c : Thread nD τ) (half a6 3 1) fullShare.right (wHalf (WQ (src false 3 c)) 1) : sProp 𝕄) from rfl)) $$ HsF3
  ihave HlF4 := (Entails.of_eq (show dirPay WQ c false (((3 : Fin 4)).val + 5) = hOwns (F := F) c (buf false) 4 (gOf false) fullShare (wHalf (WQ (src false 4 c)) (gOf false)) from rfl)) $$ HlF4
  iapply (laterB_wp c (offsL c 3) K V X a5 a6 4 fullShare fullShare (wHalf (WQ (src true 4 c)) 0) (wHalf (WQ (src false 4 c)) 1) Q _ _) $$ [HlT4 HlF4 HG H4]
  · isplitl [HlT4]; · iexact HlT4
    isplitl [HlF4]; · iexact HlF4
    isplitl [HG]; · iexact HG
    iexact H4
  iintro ⟨HlT4, HlF4, HG, H4⟩
  iapply (ret_wp c Q)
  iapply Hk
  unfold bodyPost ringPost
  isplitl [HatB]; · iexact HatB
  isplitl [HT0 HT1 HT2 HT3 HsT1 HkT1 HsT2 HkT2 HsT3 HkT3 HoT3 HlT4 HrestT]
  · isplitl [HT0 HT1 HT2 HT3]
    · isplitl [HT0]; · iexact HT0
      isplitl [HT1]; · iexact HT1
      isplitl [HT2]; · iexact HT2
      iexact HT3
    iapply (buf_glue (F := F) c true)
    isplitr [HrestT]
    · isplitl [HsT1 HkT1]
      · iapply (slot_any (F := F) c true 1 _ _)
        isplitl [HkT1]; · iexact HkT1
        iexact HsT1
      isplitl [HsT2 HkT2]
      · iapply (slot_any (F := F) c true 2 _ _)
        isplitl [HkT2]; · iexact HkT2
        iexact HsT2
      isplitl [HsT3 HkT3 HoT3]
      · iapply (slot3_any (F := F) c true _ _)
        isplitl [HkT3]; · iexact HkT3
        isplitl [HsT3]; · iexact HsT3
        iexact HoT3
      iapply (owns_any (F := F) c (half (buf true) 4 (gOf true)) fullShare _); iexact HlT4
    iexact HrestT
  isplitl [HF0 HF1 HF2 HF3 HsF1 HkF1 HsF2 HkF2 HsF3 HkF3 HoF3 HlF4 HrestF]
  · isplitl [HF0 HF1 HF2 HF3]
    · isplitl [HF0]; · iexact HF0
      isplitl [HF1]; · iexact HF1
      isplitl [HF2]; · iexact HF2
      iexact HF3
    iapply (buf_glue (F := F) c false)
    isplitr [HrestF]
    · isplitl [HsF1 HkF1]
      · iapply (slot_any (F := F) c false 1 _ _)
        isplitl [HkF1]; · iexact HkF1
        iexact HsF1
      isplitl [HsF2 HkF2]
      · iapply (slot_any (F := F) c false 2 _ _)
        isplitl [HkF2]; · iexact HkF2
        iexact HsF2
      isplitl [HsF3 HkF3 HoF3]
      · iapply (slot3_any (F := F) c false _ _)
        isplitl [HkF3]; · iexact HkF3
        isplitl [HsF3]; · iexact HsF3
        iexact HoF3
      iapply (owns_any (F := F) c (half (buf false) 4 (gOf false)) fullShare _); iexact HlF4
    iexact HrestF
  isplitl [HO]; · iexact HO
  isplitl [H1 HsT0 HsF0]
  · iapply (own_glue (F := F) c (WQ c))
    isplitl [H1]; · iapply (Entails.of_eq (own_pt (F := F) c fullShare.left (WQ c)).symm); iexact H1
    isplitl [HsT0]; · iexact HsT0
    iexact HsF0
  isplitl [HG]; · iexact HG
  iexact H4

end Whole

end Cert.KernelIdeal.Body

end
-- ==== Proof.Cells.lean ====
module

public import proofs.«01_k».proof.Proof.Sound

/-!
# Opening and closing the cells

The barrier cell comes funded from its counter; the transfer cells come dormant and are opened when the body's
scope is entered, then closed, each counter back at zero, when it is left.  Every device starts with the tokens of
the duties it pays, so that no token travels at launch.
-/

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## The duties a device pays -/

/-- A ring's transfer semaphores and its barrier duty, in one index. -/
abbrev Ln : Type := Bool × Fin 9

/-- Where the duty lies: a send's on the device itself, the barrier's behind it, an arrival's ahead. -/
def tsem (i : Ln) : SemLoc sig := if i.2 = 4 then .reg barS else .dma (dsem i.1 i.2)
def tdev (c : Dev nD) (i : Ln) : Dev nD := if i.2 = 4 then nxt (!i.1) c else if i.2.val < 4 then c else nxt i.1 c
def tlab (i : Ln) : Bool := if i.2 = 4 then i.1 else true
abbrev tcell (c : Dev nD) (i : Ln) : GSem nD τ sig := ((tdev c i : Thread nD τ), tsem i)

theorem lane_inj : ∀ i j : Ln, (tsem i, tlab i) = (tsem j, tlab j) → i = j := by decide +kernel
theorem tdev_inj (i : Ln) (c d : Dev nD) (h : tdev c i = tdev d i) : c = d := by
  unfold tdev at h
  split at h
  · exact nxt_inj _ _ _ h
  · split at h
    · exact h
    · exact nxt_inj _ _ _ h

/-- The tokens, by the device that spends them. -/
def tokEmb : Dev nD × Ln ↪ GSem nD τ sig × ℕ × Bool :=
  ⟨fun p => (tcell p.1 p.2, 0, tlab p.2), fun p q h => by
    have hl : p.2 = q.2 := lane_inj _ _ (Prod.ext (congrArg (fun t : GSem nD τ sig × ℕ × Bool => t.1.2) h)
      (congrArg (fun t : GSem nD τ sig × ℕ × Bool => t.2.2) h))
    have hd : tdev p.1 p.2 = tdev q.1 q.2 := congrArg (fun t : GSem nD τ sig × ℕ × Bool => t.1.1.1) h
    rw [hl] at hd
    exact Prod.ext (tdev_inj _ _ _ hd) hl⟩
abbrev toks : Finset (GSem nD τ sig × ℕ × Bool) := Finset.univ.map tokEmb

theorem toks_eq : bigSep toks (fun x => (dutyTok ER x.1 x.2.1 x.2.2 : sProp 𝕄))
    = bigSep Finset.univ fun c : Dev nD => bigSep Finset.univ fun i : Ln => (dutyTok ER (tcell c i) 0 (tlab i) : sProp 𝕄) := by
  rw [bigSep_map, bigSep_univ_prod]; rfl

theorem bigSep_nine (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_way {β : Type} [Fintype β] (Φ : Bool × β → sProp 𝕄) :
    bigSep Finset.univ Φ = iprop((bigSep Finset.univ fun j => Φ (true, j)) ∗ bigSep Finset.univ fun j => Φ (false, j)) := by
  rw [bigSep_univ_prod]
  exact bigSep_univ_eq_bigSepL [true, false] (by decide) (by decide) _

/-- Two families as one of pairs, and back. -/
theorem two_up {I : Type} [Fintype I] (Φ Ψ : I → sProp 𝕄) :
    iprop(bigSep Finset.univ Φ ∗ bigSep Finset.univ Ψ) ⊢ bigSep Finset.univ fun i => iprop(Φ i ∗ Ψ i) := Entails.of_eq (bigSep_sep _ _ _).symm
theorem two_apart {I : Type} [Fintype I] (Φ Ψ : I → sProp 𝕄) :
    (bigSep Finset.univ fun i => iprop(Φ i ∗ Ψ i)) ⊢ iprop(bigSep Finset.univ Φ ∗ bigSep Finset.univ Ψ) := Entails.of_eq (bigSep_sep _ _ _)

/-! ## What a ring holds once its cells are open -/

/-- The semaphore no transfer uses. -/
abbrev idle (c : Dev nD) (e : Bool) : sProp 𝕄 := atPos ER (dcell c e 4) 0 ∅ 0

/-- A ring's part, the landing buffer apart. -/
def ringOpen (c : Dev nD) (e : Bool) : sProp 𝕄 :=
  iprop(dutyTok ER (barCell (nxt (!e) c)) 0 e ∗ (ready c e 0 ∗ ready c e 1 ∗ ready c e 2 ∗ ready c e 3)
    ∗ (reached ER (dcell c e 5) 0 ∗ reached ER (dcell c e 6) 0 ∗ reached ER (dcell c e 7) 0 ∗ reached ER (dcell c e 8) 0) ∗ idle c e)

theorem ring_open (c : Dev nD) (e : Bool) :
    iprop((bigSep Finset.univ fun j : Fin 9 => iprop(atPos ER (dcell c e j) 0 ∅ 0 ∗ reached ER (dcell c e j) 0))
        ∗ (bigSep Finset.univ fun j : Fin 9 => dutyTok ER (tcell c (e, j)) 0 (tlab (e, j)))
        ∗ (bigSep Finset.univ fun r : Fin 4 => cred (tallyAt (dcell c e (jR r)) () (amt (jR r)))))
      ⊢ (ringOpen c e : sProp 𝕄) := by
  rw [bigSep_nine, bigSep_nine, bigSep_four]
  rw [show (dutyTok ER (tcell c (e, 0)) 0 (tlab (e, 0)) : sProp 𝕄) = dutyTok ER (dcell c e (jS 0)) 0 true from rfl,
    show (dutyTok ER (tcell c (e, 1)) 0 (tlab (e, 1)) : sProp 𝕄) = dutyTok ER (dcell c e (jS 1)) 0 true from rfl,
    show (dutyTok ER (tcell c (e, 2)) 0 (tlab (e, 2)) : sProp 𝕄) = dutyTok ER (dcell c e (jS 2)) 0 true from rfl,
    show (dutyTok ER (tcell c (e, 3)) 0 (tlab (e, 3)) : sProp 𝕄) = dutyTok ER (dcell c e (jS 3)) 0 true from rfl,
    show (dutyTok ER (tcell c (e, 4)) 0 (tlab (e, 4)) : sProp 𝕄) = dutyTok ER (barCell (nxt (!e) c)) 0 e from rfl,
    show (dutyTok ER (tcell c (e, 5)) 0 (tlab (e, 5)) : sProp 𝕄) = dutyTok ER (dcell (nxt e c) e (jR 0)) 0 true from rfl,
    show (dutyTok ER (tcell c (e, 6)) 0 (tlab (e, 6)) : sProp 𝕄) = dutyTok ER (dcell (nxt e c) e (jR 1)) 0 true from rfl,
    show (dutyTok ER (tcell c (e, 7)) 0 (tlab (e, 7)) : sProp 𝕄) = dutyTok ER (dcell (nxt e c) e (jR 2)) 0 true from rfl,
    show (dutyTok ER (tcell c (e, 8)) 0 (tlab (e, 8)) : sProp 𝕄) = dutyTok ER (dcell (nxt e c) e (jR 3)) 0 true from rfl]
  unfold ringOpen ready
  iintro ⟨⟨⟨A0, #Q0⟩, ⟨A1, #Q1⟩, ⟨A2, #Q2⟩, ⟨A3, #Q3⟩, ⟨A4, -⟩, ⟨A5, #Q5⟩, ⟨A6, #Q6⟩, ⟨A7, #Q7⟩, ⟨A8, #Q8⟩⟩,
    ⟨T0, T1, T2, T3, T4, T5, T6, T7, T8⟩, ⟨C0, C1, C2, C3⟩⟩
  isplitl [T4]; · iexact T4
  isplitl [A0 A1 A2 A3 A5 A6 A7 A8 T0 T1 T2 T3 T5 T6 T7 T8 C0 C1 C2 C3]
  · isplitl [A0 A5 T0 T5 C0]
    · isplitl [C0]; · iexact C0
      isplitl [A0]; · iexact A0
      isplitl [A5]; · iexact A5
      isplitl [T0]; · iexact T0
      isplitl [T5]; · iexact T5
      iexact Q0
    isplitl [A1 A6 T1 T6 C1]
    · isplitl [C1]; · iexact C1
      isplitl [A1]; · iexact A1
      isplitl [A6]; · iexact A6
      isplitl [T1]; · iexact T1
      isplitl [T6]; · iexact T6
      iexact Q1
    isplitl [A2 A7 T2 T7 C2]
    · isplitl [C2]; · iexact C2
      isplitl [A2]; · iexact A2
      isplitl [A7]; · iexact A7
      isplitl [T2]; · iexact T2
      isplitl [T7]; · iexact T7
      iexact Q2
    isplitl [C3]; · iexact C3
    isplitl [A3]; · iexact A3
    isplitl [A8]; · iexact A8
    isplitl [T3]; · iexact T3
    isplitl [T8]; · iexact T8
    iexact Q3
  isplitr [A4]
  · isplitr; · iexact Q5
    isplitr; · iexact Q6
    isplitr; · iexact Q7
    iexact Q8
  iexact A4

/-! ## Closing -/

variable (WQ : Dev nD → Vec F S2x512x768 .bf16)

/-- How far a transfer cell has gone when the body returns. -/
abbrev far (i : Ln) : ℕ := if i.2 = 4 then 0 else 1

theorem done_at (c : Dev nD) (e : Bool) :
    iprop((through c e 0 ∗ through c e 1 ∗ through c e 2 ∗ through c e 3) ∗ idle c e)
      ⊢ (bigSep Finset.univ fun j : Fin 9 => atPos ER (dcell c e j) (far (e, j)) ∅ 0 : sProp 𝕄) := by
  rw [bigSep_nine]
  unfold through
  rw [show (atPos ER (dcell c e 0) (far (e, 0)) ∅ 0 : sProp 𝕄) = atPos ER (dcell c e (jS 0)) 1 ∅ 0 from rfl,
    show (atPos ER (dcell c e 1) (far (e, 1)) ∅ 0 : sProp 𝕄) = atPos ER (dcell c e (jS 1)) 1 ∅ 0 from rfl,
    show (atPos ER (dcell c e 2) (far (e, 2)) ∅ 0 : sProp 𝕄) = atPos ER (dcell c e (jS 2)) 1 ∅ 0 from rfl,
    show (atPos ER (dcell c e 3) (far (e, 3)) ∅ 0 : sProp 𝕄) = atPos ER (dcell c e (jS 3)) 1 ∅ 0 from rfl,
    show (atPos ER (dcell c e 4) (far (e, 4)) ∅ 0 : sProp 𝕄) = atPos ER (dcell c e 4) 0 ∅ 0 from rfl,
    show (atPos ER (dcell c e 5) (far (e, 5)) ∅ 0 : sProp 𝕄) = atPos ER (dcell c e (jR 0)) 1 ∅ 0 from rfl,
    show (atPos ER (dcell c e 6) (far (e, 6)) ∅ 0 : sProp 𝕄) = atPos ER (dcell c e (jR 1)) 1 ∅ 0 from rfl,
    show (atPos ER (dcell c e 7) (far (e, 7)) ∅ 0 : sProp 𝕄) = atPos ER (dcell c e (jR 2)) 1 ∅ 0 from rfl,
    show (atPos ER (dcell c e 8) (far (e, 8)) ∅ 0 : sProp 𝕄) = atPos ER (dcell c e (jR 3)) 1 ∅ 0 from rfl]
  iintro ⟨⟨⟨A0, A5⟩, ⟨A1, A6⟩, ⟨A2, A7⟩, ⟨A3, A8⟩⟩, A4⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  iexact A8

theorem far_done (c : Dev nD) (i : Ln) (r : ℕ) (h : far i ≤ r) : (Rd WQ).duties (dcell c i.1 i.2) r = ∅ := by
  obtain ⟨e, j⟩ := i
  by_cases hr : 1 ≤ r
  · exact duties_later WQ _ r hr
  · obtain rfl : r = 0 := by omega
    have hj : j = 4 := by
      by_contra hj
      have : far (e, j) = 1 := if_neg hj
      omega
    subst hj
    exact duties_none WQ c e

/-- The body's own transfer counters. -/
abbrev osem (i : Ln) : SemLoc sig := .dma (dsem i.1 i.2)

/-- One invariant for each of a device's transfer cells. -/
theorem inv_all (κ : GSem nD τ sig → ℕ) (c : Dev nD) :
    records WQ κ ⊢ bigSep Finset.univ fun i : Ln => (cellInv ER (Rd WQ) (κ (dcell c i.1 i.2)) (dcell c i.1 i.2) : sProp 𝕄) := by
  have h := bigSep_with_persistent (R := records WQ κ) (S := (Finset.univ : Finset Ln)) (Φ := fun _ => (iprop(emp) : sProp 𝕄))
    (Ψ := fun i : Ln => (cellInv ER (Rd WQ) (κ (dcell c i.1 i.2)) (dcell c i.1 i.2) : sProp 𝕄))
    (fun i _ => by iintro ⟨#H, -⟩; iapply (inv_dma WQ κ c i.1 i.2); iexact H)
  refine BIBase.Entails.trans ?_ h
  iintro #H
  isplitr; · iexact H
  rw [show (bigSep Finset.univ fun _ : Ln => (iprop(emp) : sProp 𝕄)) = iprop(emp) from BI.bigSep_emp_const _]
  iempintro

theorem open_all (κ : GSem nD τ sig → ℕ) (c : Dev nD) :
    iprop(records WQ κ ∗ (bigSep Finset.univ fun i : Ln => openTok ER (dcell c i.1 i.2)) ∗ Pipeline.ownSems0 osem c)
      ⊢ (|={Set.univ}=> bigSep Finset.univ fun i : Ln => iprop(atPos ER (dcell c i.1 i.2) 0 ∅ 0 ∗ reached ER (dcell c i.1 i.2) 0) : sProp 𝕄) := by
  unfold Pipeline.ownSems0
  refine BIBase.Entails.trans ?_ (Rounds.cells_open ER (Rd WQ) Finset.univ (fun i : Ln => dcell c i.1 i.2) (fun i => κ (dcell c i.1 i.2))
    (fun _ _ => Set.mem_univ _))
  iintro ⟨#HR, Ho, Hs⟩
  isplitl [Ho]
  · iapply (two_up (F := F) _ _)
    isplitr; · iapply (inv_all WQ κ c); iexact HR
    iexact Ho
  iexact Hs

theorem close_all (κ : GSem nD τ sig → ℕ) (c : Dev nD) :
    iprop(records WQ κ ∗ bigSep Finset.univ fun i : Ln => atPos ER (dcell c i.1 i.2) (far i) ∅ 0)
      ⊢ (|={Set.univ}=> Pipeline.ownSems0 osem c : sProp 𝕄) := by
  refine BIBase.Entails.trans ?_ (Rounds.cells_close ER (Rd WQ) Finset.univ (fun i : Ln => dcell c i.1 i.2) (fun i => κ (dcell c i.1 i.2))
    (fun _ _ => Set.mem_univ _) (fun _ _ => id) far (fun i _ r h => far_done WQ c i r h))
  iintro ⟨#HR, Hat⟩
  iapply (two_up (F := F) _ _)
  isplitr; · iapply (inv_all WQ κ c); iexact HR
  iexact Hat

theorem close_bar (κ : GSem nD τ sig → ℕ) (c : Dev nD) :
    iprop(records WQ κ ∗ atPos ER (barCell c) 1 ∅ 0) ⊢ (|={Set.univ}=> semVal (barCell c) 0 : sProp 𝕄) := by
  refine BIBase.Entails.trans ?_ (Rounds.cell_close ER (Rd WQ) (κ := κ (barCell c)) (Set.mem_univ _) id (duties_later WQ (barCell c)))
  iintro ⟨#HR, Hat⟩
  isplitr; · iapply (inv_bar WQ κ c); iexact HR
  iexact Hat

end Cert.KernelIdeal.Body

end
-- ==== Proof.Win.lean ====
module

public import proofs.«01_k».proof.Proof.Cells

/-!
# The launch's windows

There is no grid: each operand is fetched whole before the body's one point and the result written back whole
after it.
-/

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]

local notation "𝕄" => MT nD τ sig Unit (Elt F) ℕ UU ℕ

variable (V : Dev nD → Valuation τ sig (Elt F))

/-- The operands and the result, per device: queries' input scaled, keys, values with a row of ones, both weights. -/
abbrev xOf (c : Dev nD) : Vec F S2x512x768 .bf16 := V c (Proc.devRef .tc main_v7)
abbrev wOf (c : Dev nD) : Vec F S2x512x768 .bf16 := V c (Proc.devRef .tc main_v12)
abbrev kOf (c : Dev nD) : Vec F S64x2x64x512 .bf16 := V c (Proc.devRef .tc main_v24)
abbrev vOf (c : Dev nD) : Vec F S64x2x65x512 .bf16 := V c (Proc.devRef .tc main_v28)
def oOf (c : Dev nD) : Vec F S2x512x768 .f32 := outV (wOf V) c (xOf V c) (kOf V c) (vOf V c)

/-- What the body holds of the rings before it runs. -/
def opened (c : Dev nD) : sProp 𝕄 :=
  iprop((∃ κ, records (wOf V) κ ∗ atPos ER (barCell c) 0 ∅ 0 ∗ cred (tallyAt (barCell c) () 2) ∗ ringOpen c true ∗ ringOpen c false) ∗ levAts L lv)
def Φ₀ (c : Dev nD) : sProp 𝕄 := iprop(opened V c ∗ Pipeline.scopedRest spec0 c ∗ ∃ r, prngReg c r)
def Φ₁ (c : Dev nD) : sProp 𝕄 := iprop(semVal (barCell c) 0 ∗ Pipeline.ownSems0 osem c ∗ Pipeline.scopedRest spec0 c ∗ ∃ r, prngReg c r)

/-- The launch's proof data. -/
def dat (c : Dev nD) : Dat τ (Elt F) Unit ℕ UU ℕ cfg0 c where
  A w := V c (Proc.devRef .tc (Pipeline.arrRef spec0 w))
  after w _ := match w with
    | ⟨0, _⟩ => xOf V c
    | ⟨1, _⟩ => wOf V c
    | ⟨2, _⟩ => kOf V c
    | ⟨3, _⟩ => vOf V c
    | ⟨4, _⟩ => oOf V c
  Φ t := if t.val = 0 then Φ₀ V c else Φ₁ c
  q _ := fullShare
  owed t := if t.val = 0 then O₀ c else 0

theorem blk0 (f : Vec F S2x512x768 .bf16) : ((cfg0.win 0).blk t0_0).view.read (Elt F) f = f :=
  funext fun x => congrArg f (by
    funext a; apply Fin.ext
    match a with
    | 0 => show 0 * 2 + 1 * (x 0).val = (x 0).val; omega
    | 1 => show 0 * 512 + 1 * (x 1).val = (x 1).val; omega
    | 2 => show 0 * 768 + 1 * (x 2).val = (x 2).val; omega)
theorem blk1 (f : Vec F S2x512x768 .bf16) : ((cfg0.win 1).blk t0_0).view.read (Elt F) f = f :=
  funext fun x => congrArg f (by
    funext a; apply Fin.ext
    match a with
    | 0 => show 0 * 2 + 1 * (x 0).val = (x 0).val; omega
    | 1 => show 0 * 512 + 1 * (x 1).val = (x 1).val; omega
    | 2 => show 0 * 768 + 1 * (x 2).val = (x 2).val; omega)
theorem blk2 (f : Vec F S64x2x64x512 .bf16) : ((cfg0.win 2).blk t0_0).view.read (Elt F) f = f :=
  funext fun x => congrArg f (by
    funext a; apply Fin.ext
    match a with
    | 0 => show 0 * 64 + 1 * (x 0).val = (x 0).val; omega
    | 1 => show 0 * 2 + 1 * (x 1).val = (x 1).val; omega
    | 2 => show 0 * 64 + 1 * (x 2).val = (x 2).val; omega
    | 3 => show 0 * 512 + 1 * (x 3).val = (x 3).val; omega)
theorem blk3 (f : Vec F S64x2x65x512 .bf16) : ((cfg0.win 3).blk t0_0).view.read (Elt F) f = f :=
  funext fun x => congrArg f (by
    funext a; apply Fin.ext
    match a with
    | 0 => show 0 * 64 + 1 * (x 0).val = (x 0).val; omega
    | 1 => show 0 * 2 + 1 * (x 1).val = (x 1).val; omega
    | 2 => show 0 * 65 + 1 * (x 2).val = (x 2).val; omega
    | 3 => show 0 * 512 + 1 * (x 3).val = (x 3).val; omega)
theorem blk4 (f : Vec F S2x512x768 .f32) : ((cfg0.win 4).blk t0_0).view.read (Elt F) f = f :=
  funext fun x => congrArg f (by
    funext a; apply Fin.ext
    match a with
    | 0 => show 0 * 2 + 1 * (x 0).val = (x 0).val; omega
    | 1 => show 0 * 512 + 1 * (x 1).val = (x 1).val; omega
    | 2 => show 0 * 768 + 1 * (x 2).val = (x 2).val; omega)

theorem before0 (c : Dev nD) (d) : (dat V c).before (0 : Fin 5) t0_0 d = xOf V c := by
  unfold Dat.before; rw [if_pos (fetch0_0 t0_0)]; exact blk0 (xOf V c)
theorem before1 (c : Dev nD) (d) : (dat V c).before (1 : Fin 5) t0_0 d = wOf V c := by
  unfold Dat.before; rw [if_pos (fetch0_1 t0_0)]; exact blk1 (wOf V c)
theorem before2 (c : Dev nD) (d) : (dat V c).before (2 : Fin 5) t0_0 d = kOf V c := by
  unfold Dat.before; rw [if_pos (fetch0_2 t0_0)]; exact blk2 (kOf V c)
theorem before3 (c : Dev nD) (d) : (dat V c).before (3 : Fin 5) t0_0 d = vOf V c := by
  unfold Dat.before; rw [if_pos (fetch0_3 t0_0)]; exact blk3 (vOf V c)

theorem flushed4 (c : Dev nD) (t : Fin cfg0.N) : (dat V c).flushed (4 : Fin 5) t = ((cfg0.win 4).blk t).view.read (Elt F) (oOf V c) := by
  obtain rfl := fin_N0 t
  refine Eq.trans ?_ (blk4 (oOf V c)).symm
  unfold Dat.flushed
  rfl

theorem cover4 (i : S2x512x768.Idx) : ∃ t : Fin cfg0.N, (cfg0.win 4).flush t = true ∧ i ∈ ((cfg0.win 4).blk t).view.set := by
  refine ⟨t0_0, flush0_4 _, ?_⟩
  have h := ((cfg0.win 4).blk t0_0).view.emb_mem_set i
  have e : ((cfg0.win 4).blk t0_0).view.emb i = i := by
    funext a; apply Fin.ext
    match a with
    | 0 => show 0 * 2 + 1 * (i 0).val = (i 0).val; omega
    | 1 => show 0 * 512 + 1 * (i 1).val = (i 1).val; omega
    | 2 => show 0 * 768 + 1 * (i 2).val = (i 2).val; omega
  rw [e] at h
  exact h

/-- The result array ends at the body's output. -/
theorem result4 (c : Dev nD) : (dat V c).arrAt (4 : Fin 5) cfg0.N = oOf V c :=
  (dat V c).arrAt_eq_of_cover (4 : Fin 5) (oOf V c) (fun t _ => flushed4 V c t) cover4

theorem owed_first (c : Dev nD) : (dat V c).owed t0_0.castSucc = O₀ c := by
  show (if (t0_0.castSucc : Fin (cfg0.N + 1)).val = 0 then O₀ c else 0) = O₀ c; exact if_pos rfl
theorem owed_last (c : Dev nD) : (dat V c).owed t0_0.succ = 0 := by
  show (if (t0_0.succ : Fin (cfg0.N + 1)).val = 0 then O₀ c else 0) = 0
  rw [Fin.val_succ, if_neg (Nat.succ_ne_zero _)]
theorem inv_first (c : Dev nD) : (dat V c).Φ t0_0.castSucc = Φ₀ V c := by
  show (if (t0_0.castSucc : Fin (cfg0.N + 1)).val = 0 then Φ₀ V c else Φ₁ c) = Φ₀ V c; exact if_pos rfl
theorem inv_last (c : Dev nD) : (dat V c).Φ t0_0.succ = Φ₁ c := by
  show (if (t0_0.succ : Fin (cfg0.N + 1)).val = 0 then Φ₀ V c else Φ₁ c) = Φ₁ c
  rw [Fin.val_succ, if_neg (Nat.succ_ne_zero _)]

end Cert.KernelIdeal.Body

end
-- ==== Proof.Obl.lean ====
module

public import proofs.«01_k».proof.Proof.Win

/-!
# The body at the launch's one point

What the pipeline hands the body is what the body's run asks for; what it returns closes the cells.
-/

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]

local notation "𝕄" => MT nD τ sig Unit (Elt F) ℕ UU ℕ

variable (V : Dev nD → Valuation τ sig (Elt F))

theorem owes_start (c : Dev nD) : ((dat V c).owesAt () t0_0.castSucc : sProp 𝕄) ⊢ owesL c debts := by
  unfold Dat.owesAt Pipeline.owesWithin owesL
  rw [owed_first]
  iintro ⟨%W, -, HO⟩; iexists W; iexact HO
theorem owes_finish (c : Dev nD) : owesL c [] ⊢ ((dat V c).owesAt () t0_0.succ : sProp 𝕄) := by
  unfold Dat.owesAt Pipeline.owesWithin Dat.bound owesL
  rw [owed_last]
  iintro ⟨%W, HO⟩; iexists W; isplitr; · ipureintro; exact fun _ _ => Or.inl trivial
  iexact HO

/-- A landing buffer whole is all its elements. -/
theorem buf_any (c : Dev nD) (b : Ref sig .tc) : (iprop(∃ f : Buf (Elt F) ((c : Thread nD τ).loc b), ((c : Thread nD τ).loc b) ↦{fullShare} f) : sProp 𝕄)
    = anyAt ((Memref.whole b).view.loc (c : Thread nD τ)) (Memref.whole b).view.set fullShare := by
  unfold anyAt
  rw [show (Memref.whole b).view.set = Finset.univ from View.set_whole b]
theorem bufT (c : Dev nD) : (iprop(∃ f : Buf (Elt F) ((c : Thread nD τ).loc cc0_scratch0), ((c : Thread nD τ).loc cc0_scratch0) ↦{fullShare} f) : sProp 𝕄)
    = bufAny c true := buf_any c cc0_scratch0
theorem bufF (c : Dev nD) : (iprop(∃ f : Buf (Elt F) ((c : Thread nD τ).loc cc0_scratch1), ((c : Thread nD τ).loc cc0_scratch1) ↦{fullShare} f) : sProp 𝕄)
    = bufAny c false := buf_any c cc0_scratch1

/-- A ring's part with its buffer is what the body asks for. -/
theorem ring_in (c : Dev nD) (e : Bool) : iprop(ringOpen c e ∗ bufAny c e) ⊢ (iprop(ringPre c e ∗ idle c e) : sProp 𝕄) := by
  unfold ringOpen ringPre
  iintro ⟨⟨Ht, Hr, Hq, Hi⟩, Hb⟩
  isplitr [Hi]
  · isplitl [Ht]; · iexact Ht
    isplitl [Hr]; · iexact Hr
    isplitl [Hq]; · iexact Hq
    iexact Hb
  iexact Hi

/-- The body's cells closed at its return. -/
theorem close_body (κ : GSem nD τ sig → ℕ) (c : Dev nD) :
    iprop(records (wOf V) κ ∗ atPos ER (barCell c) 1 ∅ 0
        ∗ ((through c true 0 ∗ through c true 1 ∗ through c true 2 ∗ through c true 3) ∗ idle c true)
        ∗ ((through c false 0 ∗ through c false 1 ∗ through c false 2 ∗ through c false 3) ∗ idle c false))
      ⊢ (|={Set.univ}=> iprop(semVal (barCell c) 0 ∗ Pipeline.ownSems0 osem c) : sProp 𝕄) := by
  iintro ⟨#HR, HB, HT, HF⟩
  imod (close_bar (wOf V) κ c) $$ [HB] with Hb
  · isplitr; · iexact HR
    iexact HB
  ihave HT := (done_at (F := F) c true) $$ HT
  ihave HF := (done_at (F := F) c false) $$ HF
  imod (close_all (wOf V) κ c) $$ [HT HF] with Hs
  · isplitr; · iexact HR
    rw [bigSep_way]
    isplitl [HT]; · iexact HT
    iexact HF
  imodintro
  isplitl [Hb]; · iexact Hb
  iexact Hs

/-- The staging buffers as the body finds and leaves them. -/
def stIn (c : Dev nD) : sProp 𝕄 :=
  iprop(owns (c : Thread nD τ) a0 fullShare (xOf V c) ∗ owns (c : Thread nD τ) a1 fullShare (wOf V c) ∗ owns (c : Thread nD τ) a2 fullShare (kOf V c)
    ∗ owns (c : Thread nD τ) a3 fullShare (vOf V c) ∗ ∃ f, owns (c : Thread nD τ) a4 fullShare f)
def stOut (c : Dev nD) : sProp 𝕄 :=
  iprop(owns (c : Thread nD τ) a0 fullShare (xOf V c) ∗ owns (c : Thread nD τ) a1 fullShare (wOf V c) ∗ owns (c : Thread nD τ) a2 fullShare (kOf V c)
    ∗ owns (c : Thread nD τ) a3 fullShare (vOf V c) ∗ owns (c : Thread nD τ) a4 fullShare (oOf V c))

theorem own0 (c : Dev nD) (X : Vec F S2x512x768 .bf16) : (owns (c : Thread nD τ) a0 fullShare X : sProp 𝕄) = pt c cc0_stg0_0 X := owns_whole (c : Thread nD τ) cc0_stg0_0 fullShare X
theorem own2 (c : Dev nD) (X : Vec F S64x2x64x512 .bf16) : (owns (c : Thread nD τ) a2 fullShare X : sProp 𝕄) = pt c cc0_stg2_0 X := owns_whole (c : Thread nD τ) cc0_stg2_0 fullShare X
theorem own3 (c : Dev nD) (X : Vec F S64x2x65x512 .bf16) : (owns (c : Thread nD τ) a3 fullShare X : sProp 𝕄) = pt c cc0_stg3_0 X := owns_whole (c : Thread nD τ) cc0_stg3_0 fullShare X
theorem own4 (c : Dev nD) (X : Vec F S2x512x768 .f32) : (owns (c : Thread nD τ) a4 fullShare X : sProp 𝕄) = pt c cc0_stg4_0 X := owns_whole (c : Thread nD τ) cc0_stg4_0 fullShare X

/-- The body between the pipeline's two states. -/
theorem point_wp (c : Dev nD) :
    iprop(Φ₀ V c ∗ (dat V c).owesAt () t0_0.castSucc ∗ stIn V c)
      ⊢ WP c wholeP fun _ => iprop(Φ₁ c ∗ (dat V c).owesAt () t0_0.succ ∗ stOut V c) := by
  unfold Φ₀ opened stIn
  rw [scopedRest0_eq, bufT, bufF, own0, own2, own3]
  iintro ⟨⟨⟨⟨%κ, #HR, HatB, HcB, HT, HF⟩, #Hlev⟩, ⟨HbT, HbF, Hq, Hc⟩, Hp⟩, HO, ⟨H0, H1, H2, H3, ⟨%f, H4⟩⟩⟩
  ihave HO := (owes_start V c) $$ HO
  ihave HT := (ring_in (F := F) c true) $$ [HT HbT]
  · isplitl [HT] <;> iassumption
  ihave HF := (ring_in (F := F) c false) $$ [HF HbF]
  · isplitl [HF] <;> iassumption
  icases HT with ⟨HT, HiT⟩
  icases HF with ⟨HF, HiF⟩
  iapply (whole_wp (wOf V) κ c (xOf V c) (kOf V c) (vOf V c) f _)
  isplitr [HiT HiF Hp]
  · unfold bodyPre R
    isplitr; · iexact HR
    isplitr; · iexact Hlev
    isplitl [HatB HcB]; · isplitl [HatB] <;> iassumption
    isplitl [HT]; · iexact HT
    isplitl [HF]; · iexact HF
    isplitl [HO]; · iexact HO
    isplitl [H1]; · iexact H1
    isplitl [H0 H2 H3 Hq Hc]
    · isplitl [H0]; · iexact H0
      isplitl [H2]; · iexact H2
      isplitl [H3]; · iexact H3
      isplitl [Hq]; · iexact Hq
      iexact Hc
    rw [← own4]; iexact H4
  unfold bodyPost ringPost R
  iintro ⟨HatB, ⟨HT, HbT⟩, ⟨HF, HbF⟩, HO, H1, ⟨H0, H2, H3, Hq, Hc⟩, H4⟩
  imod (close_body V κ c) $$ [HatB HT HiT HF HiF] with ⟨Hb, Hs⟩
  · isplitr; · iexact HR
    isplitl [HatB]; · iexact HatB
    isplitl [HT HiT]
    · isplitl [HT]; · iexact HT
      iexact HiT
    isplitl [HF]; · iexact HF
    iexact HiF
  imodintro
  unfold Φ₁ stOut
  rw [scopedRest0_eq, bufT, bufF, own0, own2, own3, own4]
  isplitl [Hb Hs HbT HbF Hq Hc Hp]
  · isplitl [Hb]; · iexact Hb
    isplitl [Hs]; · iexact Hs
    isplitr [Hp]
    · isplitl [HbT]; · iexact HbT
      isplitl [HbF]; · iexact HbF
      isplitl [Hq]; · iexact Hq
      iexact Hc
    iexact Hp
  isplitl [HO]; · iapply (owes_finish V c); iexact HO
  isplitl [H0]; · iexact H0
  isplitl [H1]; · iexact H1
  isplitl [H2]; · iexact H2
  isplitl [H3]; · iexact H3
  unfold oOf; iexact H4

/-- The body the launch calls is the one run above. -/
theorem bodyAt_eq : (bodyAt0 (F := F) t0_0) = wholeP := rfl
set_option maxRecDepth 100000 in
theorem prog_eq : defs₀ (F := F) .tc cfg0.body (cfg0.bodyArgs t0_0 (cfg0.slots t0_0)) = wholeP :=
  Eq.trans (b := bodyAt0 (F := F) t0_0) rfl bodyAt_eq

set_option maxRecDepth 400000 in
theorem bodyAt_whole (c : Dev nD) : BodyObligation (dat V c) (defs₀ (F := F)) 𝒱₀ () Set.univ := fun t => by
  obtain rfl := fin_N0 t
  rw [bigSep_W0, bigSep_W0, inv_first, inv_last, prog_eq]
  show iprop(Φ₀ V c ∗ (dat V c).owesAt () t0_0.castSucc
      ∗ (∃ d, owns (c : Thread nD τ) a0 fullShare ((dat V c).before (0 : Fin 5) t0_0 d))
      ∗ (∃ d, owns (c : Thread nD τ) a1 fullShare ((dat V c).before (1 : Fin 5) t0_0 d))
      ∗ (∃ d, owns (c : Thread nD τ) a2 fullShare ((dat V c).before (2 : Fin 5) t0_0 d))
      ∗ (∃ d, owns (c : Thread nD τ) a3 fullShare ((dat V c).before (3 : Fin 5) t0_0 d))
      ∗ ∃ d, owns (c : Thread nD τ) a4 fullShare ((dat V c).before (4 : Fin 5) t0_0 d))
    ⊢ WP c wholeP fun _ => iprop(Φ₁ c ∗ (dat V c).owesAt () t0_0.succ ∗ stOut V c)
  refine BIBase.Entails.trans ?_ (point_wp V c)
  unfold stIn
  iintro ⟨HΦ, HO, ⟨%d0, H0⟩, ⟨%d1, H1⟩, ⟨%d2, H2⟩, ⟨%d3, H3⟩, ⟨%d4, H4⟩⟩
  rw [before0, before1, before2, before3]
  isplitl [HΦ]; · iexact HΦ
  isplitl [HO]; · iexact HO
  isplitl [H0]; · iexact H0
  isplitl [H1]; · iexact H1
  isplitl [H2]; · iexact H2
  isplitl [H3]; · iexact H3
  iexists _; iexact H4

end Cert.KernelIdeal.Body

end
-- ==== Proof.Dues.lean ====
module

public import proofs.«01_k».proof.Proof.Obl

/-!
# What each cell is owed at launch

A cell's launch credit is what all the devices owe it: two units for a barrier, a transfer's credit for an
arrival.
-/

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-- What a list of debts owes a semaphore, all devices together. -/
def dueOf (sm : SemLoc sig) : List Debt → ℕ
  | [] => 0
  | x :: l => dueOf sm l + if x.2.1 = sm then x.2.2 else 0

theorem nxt_back (e : Bool) (c d : Dev nD) : nxt e d = c ↔ d = nxt (!e) c := by
  revert e c d; decide

theorem sum_tal (c : Dev nD) (sm : SemLoc sig) : ∀ l : List Debt, (∑ d : Dev nD, tal d l ((c : Thread nD τ), sm) ()) = dueOf sm l
  | [] => Finset.sum_const_zero
  | x :: l => by
    show (∑ d : Dev nD, (tal d l + tallyAt (x.cell d) () x.2.2) ((c : Thread nD τ), sm) ()) = dueOf sm l + if x.2.1 = sm then x.2.2 else 0
    rw [← sum_tal c sm l, Finset.sum_congr rfl fun d _ => by rw [Pi.add_apply, Finsupp.add_apply], Finset.sum_add_distrib]
    congr 1
    have h (d : Dev nD) : (tallyAt (x.cell d) () x.2.2 : CellTallies nD τ sig Unit) ((c : Thread nD τ), sm) ()
        = if d = nxt (!x.1) c then (if x.2.1 = sm then x.2.2 else 0) else 0 := by
      rw [tallyAt_apply]
      by_cases hd : d = nxt (!x.1) c
      · rw [if_pos hd]
        have hd' : nxt x.1 d = c := (nxt_back x.1 c d).mpr hd
        by_cases hs : x.2.1 = sm
        · rw [if_pos hs, if_pos ⟨by rw [← hs]; show _ = ((nxt x.1 d : Thread nD τ), x.2.1); rw [hd'], rfl⟩]
        · rw [if_neg hs, if_neg fun h => hs (congrArg Prod.snd h.1).symm]
      · rw [if_neg hd, if_neg fun h => hd ((nxt_back x.1 c d).mp (congrArg (fun g : GSem nD τ sig => g.1.1) h.1).symm)]
    rw [Finset.sum_congr rfl fun d _ => h d, Finset.sum_ite_eq' Finset.univ (nxt (!x.1) c) fun _ => (if x.2.1 = sm then x.2.2 else 0), if_pos (Finset.mem_univ _)]

theorem due_bar : dueOf (.reg barS) debts = 2 := rfl
theorem due_arr (e : Bool) (r : Fin 4) : dueOf (.dma (dsem e (jR r))) debts = amt (jR r) := by
  match e, r with
  | true, 0 => exact Nat.zero_add _
  | true, 1 => exact Nat.zero_add _
  | true, 2 => exact Nat.zero_add _
  | true, 3 => exact Nat.zero_add _
  | false, 0 => exact Nat.zero_add _
  | false, 1 => exact Nat.zero_add _
  | false, 2 => exact Nat.zero_add _
  | false, 3 => exact Nat.zero_add _

theorem launch_on (c : Dev nD) (sm : SemLoc sig) (n : ℕ) (h : dueOf sm debts = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, ← h]
  exact sum_tal c sm debts

/-- The arrivals of both rings. -/
def arrEmb : Bool × Fin 4 ↪ SemLoc sig := ⟨fun p => .dma (dsem p.1 (jR p.2)), by decide⟩
theorem arr_sub : Finset.univ.map arrEmb ⊆ Finset.univ.erase (SemLoc.reg barS : SemLoc sig) := by decide

theorem creds (c : Dev nD) :
    (Pipeline.launchCred O₀ c : sProp 𝕄)
      ⊢ iprop(cred (tallyAt (barCell c) () 2) ∗ bigSep Finset.univ fun p : Bool × Fin 4 => cred (tallyAt (dcell c p.1 (jR p.2)) () (amt (jR p.2)))) := by
  unfold Pipeline.launchCred
  rw [bigSep_univ_at _ (SemLoc.reg barS), launch_on c (.reg barS) 2 due_bar]
  refine sep_mono_right ?_
  refine BIBase.Entails.trans (bigSep_subset arr_sub) ?_
  rw [bigSep_map]
  refine bigSep_mono fun p _ => ?_
  show cred (tallyOn ((c : Thread nD τ), .dma (dsem p.1 (jR p.2))) (launchCredit (Pipeline.owing O₀) 0 ((c : Thread nD τ), .dma (dsem p.1 (jR p.2))))) ⊢ _
  rw [launch_on c _ _ (due_arr p.1 p.2)]

end Cert.KernelIdeal.Body

end
-- ==== Proof.Region.lean ====
module

public import proofs.«01_k».proof.Proof.Dues
public import proofs.«01_k».proof.Proof.Gen.KernelIdeal.Regions
public import Idealize.ShloMosaic.Lib.Pipeline.RegionTalk

/-!
# The launch as a segment of the program

Entered from the host's buffers with the rings' ghost state, left with the result array written and every
counter back at zero.
-/

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]

local notation "𝕄" => MT nD τ sig Unit (Elt F) ℕ UU ℕ

variable (V : Dev nD → Valuation τ sig (Elt F))

/-- The buffers after the launch. -/
def Vo (c : Dev nD) : Valuation τ sig (Elt F) := Function.update (V c) (Proc.devRef .tc main_v29) (oOf V c)
theorem Vo_out (c : Dev nD) : Vo V c (Proc.devRef .tc main_v29) = oOf V c := Function.update_self ..
theorem Vo_ne (c : Dev nD) (b : DevRef τ sig) (h : b ≠ Proc.devRef .tc main_v29) : Vo V c b = V c b := Function.update_of_ne h ..

/-- The rings' holdings before the launch's scope is entered: cells dormant, tokens, credit. -/
def linear (c : Dev nD) : sProp 𝕄 :=
  iprop(atPos ER (barCell c) 0 ∅ 0 ∗ (bigSep Finset.univ fun i : Ln => openTok ER (dcell c i.1 i.2))
    ∗ bigSep Finset.univ fun i : Ln => dutyTok ER (tcell c i) 0 (tlab i))
def dues (c : Dev nD) : sProp 𝕄 :=
  iprop(cred (tallyAt (barCell c) () 2) ∗ bigSep Finset.univ fun p : Bool × Fin 4 => cred (tallyAt (dcell c p.1 (jR p.2)) () (amt (jR p.2))))
def Tk (c : Dev nD) : sProp 𝕄 := iprop((∃ κ, records (wOf V) κ ∗ linear c) ∗ dues c)
def Yk (c : Dev nD) : sProp 𝕄 := semVal (barCell c) 0

theorem enter (c : Dev nD) : iprop(Tk V c ∗ Pipeline.ownSems0 osem c ∗ levAts L lv) ⊢ (|={Set.univ}=> opened V c : sProp 𝕄) := by
  unfold Tk linear dues opened
  iintro ⟨⟨⟨%κ, #HR, HatB, Ho, Ht⟩, HcB, Hc⟩, Hs, #Hlev⟩
  imod (open_all (wOf V) κ c) $$ [Ho Hs] with Ha
  · isplitr; · iexact HR
    isplitl [Ho] <;> iassumption
  imodintro
  ihave Ha := (Entails.of_eq (bigSep_way (F := F) _)) $$ Ha
  ihave Ht := (Entails.of_eq (bigSep_way (F := F) _)) $$ Ht
  ihave Hc := (Entails.of_eq (bigSep_way (F := F) _)) $$ Hc
  icases Ha with ⟨HaT, HaF⟩
  icases Ht with ⟨HtT, HtF⟩
  icases Hc with ⟨HcT, HcF⟩
  isplitl [HatB HcB HaT HtT HcT HaF HtF HcF]
  · iexists κ
    isplitr; · iexact HR
    isplitl [HatB]; · iexact HatB
    isplitl [HcB]; · iexact HcB
    isplitl [HaT HtT HcT]
    · iapply (ring_open (F := F) c true)
      isplitl [HaT]; · iexact HaT
      isplitl [HtT] <;> iassumption
    iapply (ring_open (F := F) c false)
    isplitl [HaF]; · iexact HaF
    isplitl [HtF] <;> iassumption
  iexact Hlev

abbrev pdats : (p : Fin 1) → (c : Dev nD) → Dat τ (Elt F) Unit ℕ UU ℕ (cfgs p) c
  | 0 => dat V

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_facts : Pipeline.OwnSemFacts spec0 osem := by decide

/-- The buffers no window reads or writes. -/
abbrev rest : Finset (DevRef τ sig) := Pipeline.ucRefs τ sig \ Pipeline.arrRefs (τ := τ) spec0

theorem out_arr : Proc.devRef .tc main_v29 ∈ Pipeline.arrRefs (τ := τ) spec0 := by decide

theorem rest_same (c : Dev nD) (b : DevRef τ sig) (h : b ∈ rest) : Vo V c b = V c b :=
  Vo_ne V c b fun e => (Finset.mem_sdiff.mp h).2 (e ▸ out_arr)

theorem enter_in (c : Dev nD) :
    iprop(Pipeline.scopedRest spec0 c ∗ (∃ r, prngReg c r) ∗ StableHlo.held (c.tc : Thread nD τ) ∅ (V c) ∗ opened V c)
      ⊢ ((dat V c).Φ 0 : sProp 𝕄) := by
  rw [show (dat V c).Φ 0 = Φ₀ V c from inv_first V c]
  unfold Φ₀
  iintro ⟨Hs, Hp, -, Ho⟩
  isplitl [Ho]; · iexact Ho
  isplitl [Hs]; · iexact Hs
  iexact Hp

theorem leave (c : Dev nD) : ((dat V c).Φ (Fin.last cfg0.N) : sProp 𝕄)
    ⊢ iprop(Pipeline.scopedRest spec0 c ∗ (∃ r, prngReg c r) ∗ StableHlo.held (c.tc : Thread nD τ) ∅ (Vo V c) ∗ Pipeline.ownSems0 osem c ∗ Yk c) := by
  rw [show (dat V c).Φ (Fin.last cfg0.N) = Φ₁ c from inv_last V c]
  unfold Φ₁ Yk
  iintro ⟨Hb, Ho, Hs, Hp⟩
  isplitl [Hs]; · iexact Hs
  isplitl [Hp]; · iexact Hp
  isplitr; · unfold StableHlo.held; rw [BI.bigSep_empty]; iempintro
  isplitl [Ho]; · iexact Ho
  iexact Hb

theorem cut_all (c : Dev nD) (t : Fin (cfg0.N + 1)) (g : GSem nD τ sig) (i : Unit) (h : 0 < (dat V c).owed t g i) : i ∈ L g ∧ (0 : ℕ) < lv g i := by
  have e : (dat V c).owed t = if t.val = 0 then O₀ c else 0 := rfl
  rw [e] at h
  split at h
  · exact cutD c g i h
  · exact absurd h (Nat.lt_irrefl 0)

theorem arr_first (c : Dev nD) (w : Fin 5) : (dat V c).arrAt w 0 = V c (Proc.devRef .tc (Pipeline.arrRef spec0 w)) := rfl

theorem arr_last (c : Dev nD) : ∀ w : Fin 5, (dat V c).arrAt w cfg0.N = Vo V c (Proc.devRef .tc (Pipeline.arrRef spec0 w))
  | 0 => ((dat V c).arrAt_in (0 : Fin 5) rfl _).trans (Vo_ne V c _ (by decide)).symm
  | 1 => ((dat V c).arrAt_in (1 : Fin 5) rfl _).trans (Vo_ne V c _ (by decide)).symm
  | 2 => ((dat V c).arrAt_in (2 : Fin 5) rfl _).trans (Vo_ne V c _ (by decide)).symm
  | 3 => ((dat V c).arrAt_in (3 : Fin 5) rfl _).trans (Vo_ne V c _ (by decide)).symm
  | 4 => (result4 V c).trans (Vo_out V c).symm

theorem stage_level (w : Fin 5) (s : Fin (spec0 w).nbuf) : slv (.dma ((cfg0.win w).sem s)) ≤ 0 := by
  revert w s; decide

set_option backward.isDefEq.respectTransparency.types false in
/-- The segment. -/
def reg : Pipeline.RegionSeg (pcfgs (F := F)) adm (pdats V) () defs₀ 𝒱₀ L lv 0 :=
  Pipeline.RegionSeg.ofTalk (pcfgs (F := F)) adm (pdats V) () defs₀ 𝒱₀ L lv 0 osem own_facts
    ∅ rest (Finset.empty_subset _) kit rfl (fun c => (bodyAt_whole V c).loose)
    (fun _ => 0) O₀ (fun c => (owed_first V c).trans (zero_add _).symm) (fun c => owed_last V c) (fun _ => rfl)
    (fun c w => by unfold Dat.share; split <;> rfl)
    V (Vo V) (fun c b hb => rest_same V c b (Finset.mem_sdiff.mp hb).1)
    (Tk V) Yk (opened V) Yk (enter V) (enter_in V) (leave V)
    (fun c => by iintro H; imodintro; iexact H)
    (fun _ => 0)
    ⟨fun c w s => by rw [L_tc]; exact Finset.mem_singleton_self _, fun c w s => stage_level w s, fun c t g i h => cut_all V c t g i h⟩
    (fun _ => iprop(emp))
    (fun c w => arr_first V c w) (fun c w => arr_last V c w)

end Cert.KernelIdeal.Body

end
-- ==== Proof.Start.lean ====
module

public import proofs.«01_k».proof.Proof.Region

/-!
# The run

The ghost state dealt at launch, the two segments of the program in a row, and what every final state holds: the arguments
unchanged, the result array at its closed form, every counter at zero.
-/

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg)
open Cert.KernelIdeal Cert.KernelIdeal.Gen

variable {F : FTy → Type} [FloatOps F] [Named F]

local notation "𝕄" => MT nD τ sig Unit (Elt F) ℕ UU ℕ

theorem dma_not_bar (i : Ln) : osem i ≠ SemLoc.reg barS := fun h => by cases h

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact dma_not_bar ck.2 (congrArg Prod.snd h)

/-- What the launch hands to one device only. -/
def onDev (c₀ : Dev nD) (X : sProp 𝕄) (c : Dev nD) : sProp 𝕄 := if c = c₀ then X else BI.emp

theorem bigSep_onDev (c₀ : Dev nD) (X : sProp 𝕄) : bigSep Finset.univ (onDev c₀ X) = X := by
  rw [bigSep_univ_at _ c₀, bigSep_congr (s := Finset.univ.erase c₀) (Ψ := fun _ => BI.emp) fun c hc => by
    unfold onDev; rw [if_neg (Finset.ne_of_mem_erase hc)], BI.bigSep_emp_const]
  unfold onDev; rw [if_pos rfl]
  exact BI.equiv_iff.mp sep_emp

def u₀ : UU := (initOf (Pipeline.cells (Pipeline.pin (pcfgs (F := F)) adm) cellOf_inj) (Pipeline.launchToks (Pipeline.pin (pcfgs (F := F)) adm) cellOf_inj),
  launchOf barCells scCells toks)

def G : Dev nD → sProp 𝕄 := onDev 0 (BI.own (ER (launchOf barCells scCells toks)))

theorem bar_only : (Finset.univ.filter fun sm : SemLoc sig => ¬ sm.isScoped .tc = true) = {SemLoc.reg barS} := by decide

theorem unscopedSems0_eq (c : Dev nD) : (unscopedSems0 c : sProp 𝕄) = semVal (barCell c) 0 := by
  unfold unscopedSems0
  rw [show (Finset.univ.filter fun sm : SemLoc sig => ¬ sm.isScoped .tc = true) = {SemLoc.reg barS} from bar_only, bigSep_singleton]

variable (V : Dev nD → Valuation τ sig (Elt F))

/-- What a device holds besides its buffers while the host's operations run. -/
def E0 (c : Dev nD) : sProp 𝕄 := iprop(Tk V c ∗ (∃ r, prngReg c r) ∗ ∃ W, owes (c : Thread nD τ) (O₀ c) W)

/-- Its share that is not the rings' ghost state. -/
def bundle (c : Dev nD) : sProp 𝕄 := iprop(dues c ∗ owes (c : Thread nD τ) (O₀ c) ∅ ∗ ∃ r, prngReg c r)

theorem E0_intro (κ : GSem nD τ sig → ℕ) (c : Dev nD) : iprop(records (wOf V) κ ∗ (linear c ∗ bundle c)) ⊢ E0 V c := by
  unfold bundle E0 Tk
  iintro ⟨#HR, Hl, Hd, HO, Hp⟩
  isplitl [Hl Hd]
  · isplitl [Hl]
    · iexists κ
      isplitr; · iexact HR
      iexact Hl
    iexact Hd
  isplitl [Hp]; · iexact Hp
  iexists ∅; iexact HO

theorem core (ρ : Dev nD → PrngReg) (c : Dev nD) :
    iprop(unscopedSems0 c ∗ owes (c : Thread nD τ) (O₀ c) ∅ ∗ Pipeline.launchCred O₀ c ∗ prngReg c (ρ c) ∗ G c)
      ⊢ (iprop(bundle c ∗ (semVal (barCell c) 0 ∗ G c)) : sProp 𝕄) := by
  rw [unscopedSems0_eq]
  unfold bundle dues
  iintro ⟨Hus, HO, Hcr, Hp, HG⟩
  ihave Hc := (creds (F := F) c) $$ Hcr
  isplitl [Hc HO Hp]
  · isplitl [Hc]; · iexact Hc
    isplitl [HO]; · iexact HO
    iexists (ρ c); iexact Hp
  isplitl [Hus] <;> iassumption

theorem deal (ρ : Dev nD → PrngReg) :
    iprop((bigSep Finset.univ fun c : Dev nD => iprop(unscopedSems0 c ∗ owes (c : Thread nD τ) (O₀ c) ∅ ∗ Pipeline.launchCred O₀ c ∗ prngReg c (ρ c) ∗ G c))
        ∗ levAts L lv) ⊢ (|={Set.univ}=> bigSep Finset.univ (E0 V) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun i : Ln => (openTok ER (dcell c i.1 i.2) : sProp 𝕄)) :=
    Entails.of_eq (by rw [bigSep_map, bigSep_univ_prod]; rfl)
  have hmono : (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(bundle c ∗ (semVal (barCell c) 0 ∗ G c)) : sProp 𝕄) := bigSep_mono fun c _ => core (F := F) ρ c
  iintro ⟨H, -⟩
  ihave H' := hmono $$ H
  ihave H2 := (two_apart (F := F) _ _) $$ H'; icases H2 with ⟨HB, H3⟩
  ihave H4 := (two_apart (F := F) _ _) $$ H3; icases H4 with ⟨Hv, HG⟩
  ihave Hu := (show bigSep Finset.univ (G (F := F)) ⊢ BI.own (ER (launchOf barCells scCells toks)) from
    Entails.of_eq (bigSep_onDev (F := F) 0 (BI.own (ER (launchOf barCells scCells toks))))) $$ HG
  imod (Rounds.fund_launch ER (Rd (wOf V)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records (wOf V) κ) (Φ := fun c => iprop(linear c ∗ bundle c)) fun c _ => E0_intro V κ c)
  isplitr
  · unfold records
    isplitr; · iexact Hinv
    iexact Hr
  iapply (two_up (F := F) _ _)
  isplitr [HB]
  · unfold linear
    iapply (two_up (F := F) _ _); isplitl [Hat]; · iapply hat $$ Hat
    iapply (two_up (F := F) _ _); isplitl [Hopen]; · iapply hopen $$ Hopen
    iapply (Entails.of_eq (toks_eq (F := F))) $$ Htok
  · iexact HB

section Run
variable (m : (ℓ : Loc nD τ sig) → Buf (Elt F) ℓ) (ρ : Dev nD → PrngReg)

def outs : Outs (F := F) := fun _ r c => Vo (V1 m) c r

theorem V2_eq (c : Dev nD) : V2 m (outs m) c = Vo (V1 m) c := by
  show Function.update (V1 m c) (Proc.devRef .tc main_v29) (Vo (V1 m) c (Proc.devRef .tc main_v29)) = _
  rw [Vo_out]; rfl

def Es : Fin 2 → Dev nD → sProp 𝕄
  | 0, c => E0 (V1 m) c
  | 1, c => iprop(semVal (barCell c) 0 ∗ ∃ W, owes (c : Thread nD τ) (0 : CellTallies nD τ sig Unit) W)

theorem arr_sub_uc : Pipeline.arrRefs (τ := τ) spec0 ⊆ Pipeline.ucRefs τ sig := by decide

theorem reg_pre (c : Dev nD) : iprop(StableHlo.held (c : Thread nD τ) (Pipeline.ucRefs τ sig) (V1 m c) ∗ E0 (V1 m) c) ⊢ (reg (V1 m)).pre c := by
  rw [StableHlo.held_sub_split (c : Thread nD τ) arr_sub_uc (V1 m c)]
  show _ ⊢ iprop(StableHlo.held (c : Thread nD τ) (Pipeline.arrRefs (τ := τ) spec0) (V1 m c) ∗ (∃ r, prngReg c r)
    ∗ (StableHlo.held (c : Thread nD τ) rest (V1 m c) ∗ emp) ∗ Tk (V1 m) c ∗ ∃ Wd, owes (c : Thread nD τ) (0 + O₀ c) Wd)
  rw [zero_add]
  unfold E0
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg (V1 m)).post c ⊢ iprop((StableHlo.held (c : Thread nD τ) (Pipeline.ucRefs τ sig) (V2 m (outs m) c) ∗ semVal (barCell c) 0)
    ∗ ∃ W, owes (c : Thread nD τ) (0 : CellTallies nD τ sig Unit) W) := by
  rw [StableHlo.held_sub_split (c : Thread nD τ) arr_sub_uc (V2 m (outs m) c), V2_eq]
  show iprop(StableHlo.held (c : Thread nD τ) (Pipeline.arrRefs (τ := τ) spec0) (Vo (V1 m) c) ∗ (∃ r, prngReg c r)
    ∗ (StableHlo.held (c : Thread nD τ) rest (Vo (V1 m) c) ∗ emp) ∗ Yk c ∗ ∃ Wd, owes (c : Thread nD τ) (0 : CellTallies nD τ sig Unit) Wd) ⊢ _
  unfold Yk
  iintro ⟨Ha, -, ⟨Hr, -⟩, Hb, HO⟩
  isplitl [Ha Hr Hb]
  · isplitl [Ha Hr]
    · isplitl [Ha] <;> iassumption
    iexact Hb
  iexact HO

theorem only_bar : ∀ sm : SemLoc sig, sm.isScoped .tc = false → sm = .reg barS := by decide

set_option backward.isDefEq.respectTransparency.types false in
/-- Every run ends, with the arguments as launched, the result at its closed form and every counter at zero. -/
theorem run_main : θ_run defs (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v29) = oOf (V1 m) c)
    ∧ r.2.sem = fun _ => 0) := by
  refine Pipeline.θ_run_regions_kit_dev_sems (pcfgs (F := F)) adm (pdats (V1 m)) () cellOf_inj EP defs₀ 𝒱₀ L lv m ρ main
    (segs m 𝒱₀ L lv (Es m) () (pdats (V1 m)) (reg (V1 m)))
    (fun c Q => by
      rewrite [main_chain c, Seg.run_eq_chain,
        show (segs m 𝒱₀ L lv (Es m) () (pdats (V1 m)) (reg (V1 m)) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide)
    (O₀ := O₀) (hL := L_of_ne) (G := G) (u₀ := u₀ (F := F)) (hu₀ := ?_)
    (T₀ := fun c => iprop(StableHlo.held (c : Thread nD τ) (Pipeline.ucRefs τ sig) (V0 m c) ∗ E0 (V1 m) c))
    (Tₙ := fun c => iprop(StableHlo.held (c : Thread nD τ) (Pipeline.ucRefs τ sig) (V2 m (outs m) c) ∗ semVal (barCell c) 0))
    (hch := fun c => ⟨.rfl, reg_pre m c, reg_post m c⟩)
    (hinit := ?_)
    (QY := fun c s => ((s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
      ∧ s.mem ((c.tc : Thread nD τ).loc main_v29) = oOf (V1 m) c)
      ∧ s.sem (barCell c) = 0)
    (hfin := fun c s' => ?_)
    (hQ := fun s h hs => ⟨fun c => (h c).1, sem_eq_zero hs fun c sm hsm => by
      obtain rfl := only_bar sm hsm
      exact (h c).2⟩)
  · unfold u₀ G
    iintro Hu
    ihave H := (ownU_pair _ _) $$ Hu
    icases H with ⟨HP, HX⟩
    imodintro
    isplitl [HP]; · iexact HP
    rw [bigSep_onDev]; iexact HX
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (deal (V1 m) ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    imodintro
    isplitr
    · ipureintro
      exact ⟨⟨⟨(h (Proc.devRef .tc main_arg0) (Finset.mem_filter.mpr ⟨StableHlo.devRef_mem_tcRefs main_arg0, by decide⟩)).trans (V2_main_arg0 m (outs m) c),
        (h (Proc.devRef .tc main_arg1) (Finset.mem_filter.mpr ⟨StableHlo.devRef_mem_tcRefs main_arg1, by decide⟩)).trans (V2_main_arg1 m (outs m) c),
        (h (Proc.devRef .tc main_arg2) (Finset.mem_filter.mpr ⟨StableHlo.devRef_mem_tcRefs main_arg2, by decide⟩)).trans (V2_main_arg2 m (outs m) c),
        (h (Proc.devRef .tc main_arg3) (Finset.mem_filter.mpr ⟨StableHlo.devRef_mem_tcRefs main_arg3, by decide⟩)).trans (V2_main_arg3 m (outs m) c),
        (h (Proc.devRef .tc main_arg4) (Finset.mem_filter.mpr ⟨StableHlo.devRef_mem_tcRefs main_arg4, by decide⟩)).trans (V2_main_arg4 m (outs m) c)⟩,
        (h (Proc.devRef .tc main_v29) (Finset.mem_filter.mpr ⟨StableHlo.devRef_mem_tcRefs main_v29, by decide⟩)).trans
          ((congrFun (V2_eq m c) _).trans (Vo_out (V1 m) c))⟩, by simpa using hb⟩
    · iexact HSI

end Run

end Cert.KernelIdeal.Body

end
-- ==== Proof.Twin.lean ====
module

public import proofs.«01_k».proof.Proof.Start
public import proofs.«01_k».proof.Proof.Gen.Kernel
public import Idealize.ShloMosaic.PureOps.BitExact

/-!
# The printed kernel and the idealized one

They have one text but for the named mask constant. At machine words, with the name read as the word it stands for,
they are the same program.
-/

@[expose] public section

set_option maxRecDepth 100000

noncomputable section

namespace Cert.Twin

open Idealize.ShloMosaic Idealize.SL.Sem

/-- At machine words a named constant is its word. -/
local instance namedBits : Named Bits where
  named _ _ {_} b := b

theorem main_eq : Cert.KernelIdeal.main (F := Bits) = Cert.Kernel.main (F := Bits) := rfl

theorem defs0_eq : Cert.KernelIdeal.defs₀ (F := Bits) = Cert.Kernel.defs₀ (F := Bits) := by
  unfold Cert.KernelIdeal.defs₀ Cert.Kernel.defs₀
  refine congrArg Defs.onTc (funext fun x => funext fun y => ?_)
  match x, y with
  | 0, (t, s) => exact rfl

theorem defs_eq : Cert.KernelIdeal.defs (F := Bits) = Cert.Kernel.defs (F := Bits) :=
  congrArg (Pipeline.defs (Cert.Kernel.pcfgs (F := Bits))) defs0_eq

/-- The printed kernel's run, over machine words. -/
theorem run (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  have h := (θ_run (Cert.KernelIdeal.defs (F := Bits)) (onTc (τ := Cert.KernelIdeal.τ) (Cert.KernelIdeal.main (F := Bits))) ⟨m, fun _ => 0, g⟩).mono
    (fun r h => And.intro (fun c => (h.1 c).1) h.2) (Cert.KernelIdeal.Body.run_main (F := Bits) m g)
  rw [defs_eq] at h
  exact h

end Cert.Twin

end
-- ==== Proof.Softmax.lean ====
module

public import Idealize.ShloMosaic.PureOps.Ideal

/-!
# One row of attention over the extended reals

A row of real scores, some of them masked: the exponentials taken as they are and divided at the end
come to the same as the exponentials taken less the largest score and divided first.
-/

@[expose] public section

noncomputable section

namespace Cert.Softmax

open Idealize.ShloMosaic

/-- A query at `i` sees a key at `j`. -/
abbrev Sees (i j : ℕ) : Prop := i / 64 = j / 64 ∨ j / 64 = 0 ∨ (i / 64 + j / 64) % 3 = 0

/-- A sum of reals, taken in the extended reals. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A factor that is a real no less than zero comes into a sum of any extended reals. -/
theorem sum_mul_coe {ι : Type*} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

variable {n : ℕ} (S : Fin n → Prop) [DecidablePred S] (s : Fin n → ℝ) (v : Fin n → EReal)

/-- The weight of a key before the division. -/
def mass (j : Fin n) : ℝ := if S j then Real.exp (s j) else 0

theorem mass_nonneg (j : Fin n) : 0 ≤ mass S s j := by
  unfold mass; split <;> positivity

theorem total_pos (j₀ : Fin n) (h : S j₀) : 0 < ∑ j, mass S s j :=
  Finset.sum_pos' (fun j _ => mass_nonneg S s j) ⟨j₀, Finset.mem_univ _, by unfold mass; rw [if_pos h]; positivity⟩

/-- The exponential of a score with its mask added. -/
theorem exp_bias (j : Fin n) : Ideal.exp ((s j : EReal) + if S j then 0 else ⊥) = (mass S s j : EReal) := by
  unfold mass
  split
  · simp
  · simp

/-- The exponential of a masked score less a real. -/
theorem exp_less (m : ℝ) (j : Fin n) :
    Ideal.exp ((if S j then (s j : EReal) else ⊥) - (m : EReal)) = ((mass S s j * Real.exp (-m) : ℝ) : EReal) := by
  unfold mass
  split
  · rw [← EReal.coe_sub, Ideal.exp_coe, ← Real.exp_add, sub_eq_add_neg]
  · simp [sub_eq_add_neg]

/-- The largest of a row's scores is real when a key is seen. -/
theorem best_real (j₀ : Fin n) (h : S j₀) :
    ∃ m : ℝ, Finset.fold max (⊥ : EReal) (fun j => if S j then (s j : EReal) else ⊥) Finset.univ = (m : EReal) := by
  classical
  have key : ∀ t : Finset (Fin n), Finset.fold max (⊥ : EReal) (fun j => if S j then (s j : EReal) else ⊥) t = ⊥ ∧ j₀ ∉ t
      ∨ ∃ m : ℝ, Finset.fold max (⊥ : EReal) (fun j => if S j then (s j : EReal) else ⊥) t = (m : EReal) := by
    intro t
    induction t using Finset.induction_on with
    | empty => exact .inl ⟨rfl, Finset.notMem_empty _⟩
    | insert a t ha ih =>
      rw [Finset.fold_insert ha]
      rcases ih with ⟨e, hn⟩ | ⟨m, e⟩
      · rw [e]
        by_cases hs : S a
        · exact .inr ⟨s a, by rw [if_pos hs]; exact max_bot_right _⟩
        · refine .inl ⟨by rw [if_neg hs]; exact max_bot_right _, ?_⟩
          rw [Finset.mem_insert]; rintro (rfl | hm)
          · exact hs h
          · exact hn hm
      · rw [e]
        by_cases hs : S a
        · exact .inr ⟨max (s a) m, by rw [if_pos hs]; exact (EReal.coe_strictMono.monotone.map_max).symm⟩
        · exact .inr ⟨m, by rw [if_neg hs]; exact max_bot_left _⟩
  rcases key Finset.univ with ⟨_, hn⟩ | hm
  · exact absurd (Finset.mem_univ _) hn
  · exact hm

/-- A row: dividing at the end is dividing each weight. -/
theorem row (j₀ : Fin n) (h : S j₀) :
    Ideal.div (∑ j, v j * Ideal.exp ((s j : EReal) + if S j then 0 else ⊥)) (∑ j, 1 * Ideal.exp ((s j : EReal) + if S j then 0 else ⊥))
      = ∑ j, v j * Ideal.div (Ideal.exp ((if S j then (s j : EReal) else ⊥)
          - Finset.fold max (⊥ : EReal) (fun j => if S j then (s j : EReal) else ⊥) Finset.univ))
        (∑ j', Ideal.exp ((if S j' then (s j' : EReal) else ⊥)
          - Finset.fold max (⊥ : EReal) (fun j => if S j then (s j : EReal) else ⊥) Finset.univ)) := by
  obtain ⟨m, hm⟩ := best_real S s j₀ h
  rw [hm]
  simp only [exp_bias, exp_less, one_mul, coe_sum]
  have hp := total_pos S s j₀ h
  have he := Real.exp_pos (-m)
  have hq : 0 < ∑ j, mass S s j * Real.exp (-m) := by rw [← Finset.sum_mul]; positivity
  rw [Ideal.div_coe hp.ne', sum_mul_coe _ _ _ (by positivity)]
  refine Finset.sum_congr rfl fun j _ => ?_
  rw [Ideal.div_coe hq.ne', mul_assoc, ← EReal.coe_mul, ← EReal.coe_mul]
  congr 2
  rw [← Finset.sum_mul]
  field_simp

/-! ## A score -/

variable (x : Fin 768 → ℝ) (w : Fin 64 → Fin 768 → ℝ) (k : Fin 64 → ℝ) (c : ℝ)

/-- A query against a key, scaled. -/
def score : ℝ := (∑ d, (∑ e, x e * w d e) * k d) * c

/-- The scale at the end. -/
theorem score_after : (∑ d, (∑ e, (x e : EReal) * (w d e : EReal)) * (k d : EReal)) * (c : EReal) = (score x w k c : EReal) := by
  simp only [← EReal.coe_mul, coe_sum, score]

/-- The scale at the beginning. -/
theorem score_before : ∑ d, (∑ e, (w d e : EReal) * ((x e : EReal) * (c : EReal))) * (k d : EReal) = (score x w k c : EReal) := by
  simp only [← EReal.coe_mul, coe_sum, score]
  congr 1
  rw [Finset.sum_mul]
  refine Finset.sum_congr rfl fun d _ => ?_
  rw [Finset.sum_mul, Finset.sum_mul, Finset.sum_mul]
  exact Finset.sum_congr rfl fun e _ => by ring

end Cert.Softmax

end
-- ==== Proof.KVal.lean ====
module

public import proofs.«01_k».proof.Proof.Sound
public import Idealize.ShloMosaic.Lib.Pointwise
public import Idealize.ShloMosaic.Lib.IdealHost
public import proofs.«01_k».proof.Proof.Softmax

/-!
# The kernel's arithmetic at an index

What the body's vector expressions are at an index over the extended reals.
-/

@[expose] public section

set_option maxRecDepth 16384

noncomputable section

namespace Cert.KernelIdeal.Body

open Idealize.ShloMosaic Idealize.ShloMosaic.TcCoe
open Cert.KernelIdeal Cert.KernelIdeal.Gen

open Cert.Softmax

theorem pay7_apply (B : FVec Ideal S512x512 .f32) (q : Vec Ideal S64x512 .bf16) (k : Vec Ideal S1x1x64x512 .bf16) (v : Vec Ideal S1x1x65x512 .bf16)
    (d : Fin 64) (i : Fin 512) : k0_pay7 B q k v (ix2 d i)
      = Ideal.div (∑ j, v (ix4 0 0 ⟨d.val, by omega⟩ j) * Ideal.exp (∑ d', q (ix2 d' i) * k (ix4 0 0 d' j) + B (ix2 i j)))
          (∑ j, v (ix4 0 0 64 j) * Ideal.exp (∑ d', q (ix2 d' i) * k (ix4 0 0 d' j) + B (ix2 i j))) := by
  pointwise [k0_pay7]

theorem qPay_apply (w : Vec Ideal S512x768 .bf16) (x : Vec Ideal S2x512x768 .bf16) (r : Fin 512) (i : Fin 1024) :
    qPay w x (ix2 r i) = ∑ e, w (ix2 r e) * x (ix3 ⟨i.val / 512, by omega⟩ ⟨i.val % 512, by omega⟩ e) := by
  pointwise [qPay]

/-- The block of a place, as the body spells it. -/
theorem block_word : ∀ i : Fin 512, Scalar.select
              (IntOp.andi
                (IntOp.cmpi CmpIPredicate.ne
                  (IntOp.subi (BitVec.setWidth 32 (IntOp.cmpi CmpIPredicate.sgt (BitVec.ofNat 32 i) 0#32))
                    (BitVec.setWidth 32 (IntOp.cmpi CmpIPredicate.slt (BitVec.ofNat 32 i) 0#32)))
                  (Scalar.subi (Scalar.extui (Scalar.cmpi CmpIPredicate.sgt 64#32 0#32))
                    (Scalar.extui (Scalar.cmpi CmpIPredicate.slt 64#32 0#32))))
                (IntOp.cmpi CmpIPredicate.ne (IntOp.remsi ArithUnit.vector (BitVec.ofNat 32 i) 64#32) 0#32))
              (IntOp.subi (IntOp.divsi ArithUnit.vector (BitVec.ofNat 32 i) 64#32) 1#32)
              (IntOp.divsi ArithUnit.vector (BitVec.ofNat 32 i) 64#32) = BitVec.ofNat 32 (i.val / 64) := by
  decide +kernel

theorem sees_word : ∀ a b : Fin 8, IntOp.ori
        (IntOp.ori (IntOp.cmpi CmpIPredicate.eq (BitVec.ofNat 32 a) (BitVec.ofNat 32 b)) (IntOp.cmpi CmpIPredicate.eq (BitVec.ofNat 32 b) 0#32))
        (IntOp.cmpi CmpIPredicate.eq (IntOp.remsi ArithUnit.vector (IntOp.addi (BitVec.ofNat 32 a) (BitVec.ofNat 32 b)) 3#32) 0#32)
      = if (a.val = b.val ∨ b.val = 0 ∨ (a.val + b.val) % 3 = 0) then 1#1 else 0#1 := by
  decide +kernel

theorem bias_apply (i j : Fin 512) : bias (F := Ideal) (ix2 i j) = if Sees i j then 0 else ⊥ := by
  pointwise [bias, k0_pay4, k0_pay2, k0_pay3]
  rw [block_word i, block_word j]
  have hw := sees_word ⟨i.val / 64, by omega⟩ ⟨j.val / 64, by omega⟩
  simp only [] at hw
  rw [hw]
  by_cases hs : Sees i j
  · rw [if_pos hs, if_pos hs]; rfl
  · rw [if_neg hs, if_neg hs]; rfl

theorem pay34_apply (w : Vec Ideal S512x768 .bf16) (x : Vec Ideal S512x1024 .bf16) (i : Fin 512) (e : Fin 768) :
    k0_pay34 w x (ix3 0 i e) = ∑ r, x (ix2 r ⟨i.val, by omega⟩) * w (ix2 r e) := by
  pointwise [k0_pay34, k0_pay33]
theorem pay35_apply (w : Vec Ideal S512x768 .bf16) (x : Vec Ideal S512x1024 .bf16) (i : Fin 512) (e : Fin 768) :
    k0_pay35 w x (ix3 0 i e) = ∑ r, x (ix2 r ⟨512 + i.val, by omega⟩) * w (ix2 r e) := by
  pointwise [k0_pay35, k0_pay33]
theorem pay63_apply (w : Vec Ideal S512x768 .bf16) (x : Vec Ideal S512x1024 .bf16) (u : Vec Ideal S1x512x768 .f32) (i : Fin 512) (e : Fin 768) :
    k0_pay63 w x u (ix3 0 i e) = u (ix3 0 i e) + ∑ r, x (ix2 r ⟨i.val, by omega⟩) * w (ix2 r e) := by
  pointwise [k0_pay63, k0_pay62]
theorem pay64_apply (w : Vec Ideal S512x768 .bf16) (x : Vec Ideal S512x1024 .bf16) (u : Vec Ideal S1x512x768 .f32) (i : Fin 512) (e : Fin 768) :
    k0_pay64 w x u (ix3 0 i e) = u (ix3 0 i e) + ∑ r, x (ix2 r ⟨512 + i.val, by omega⟩) * w (ix2 r e) := by
  pointwise [k0_pay64, k0_pay62]

/-- Where the context of batch row `b` at query `i` lies. -/
abbrev colOf (b : Fin 2) (i : Fin 512) : Fin 1024 := ⟨512 * b.val + i.val, by omega⟩

theorem colOf_zero (b : Fin 2) (i : Fin 512) (h : b.val = 0) : colOf b i = ⟨i.val, by omega⟩ := Fin.ext (by show 512 * b.val + i.val = i.val; omega)
theorem colOf_one (b : Fin 2) (i : Fin 512) (h : b.val ≠ 0) : colOf b i = ⟨512 + i.val, by omega⟩ := Fin.ext (by show 512 * b.val + i.val = 512 + i.val; omega)

theorem rowOf_ix (b : Fin 2) (i : Fin 512) (e : Fin 768) : rowOf (ix3 b i e) = ix3 0 i e := by
  funext a; match a with | ⟨0, _⟩ => rfl | ⟨1, _⟩ => rfl | ⟨2, _⟩ => rfl

theorem outPut_apply (w : Vec Ideal S512x768 .bf16) (x : Vec Ideal S512x1024 .bf16) (b : Fin 2) (i : Fin 512) (e : Fin 768) :
    outPut w x (ix3 b i e) = ∑ r, x (ix2 r (colOf b i)) * w (ix2 r e) := by
  unfold outPut rows
  rw [rowOf_ix, pay34_apply, pay35_apply]
  by_cases h : (ix3 b i e 0).val = 0
  · rw [if_pos h, colOf_zero b i h]
  · rw [if_neg h, colOf_one b i h]

theorem outAdd_apply (acc : Vec Ideal S2x512x768 .f32) (w : Vec Ideal S512x768 .bf16) (x : Vec Ideal S512x1024 .bf16) (b : Fin 2) (i : Fin 512) (e : Fin 768) :
    outAdd acc w x (ix3 b i e) = acc (ix3 b i e) + ∑ r, x (ix2 r (colOf b i)) * w (ix2 r e) := by
  have e0 : ∀ h : (ix3 b i e 0).val = 0, row0 acc (ix3 0 i e) = acc (ix3 b i e) := fun h => by
    have := emb_row0 (ix3 b i e) h
    rw [rowOf_ix] at this
    unfold row0; rw [this]
  have e1 : ∀ h : (ix3 b i e 0).val ≠ 0, row1 acc (ix3 0 i e) = acc (ix3 b i e) := fun h => by
    have := emb_row1 (ix3 b i e) h
    rw [rowOf_ix] at this
    unfold row1; rw [this]
  unfold outAdd rows
  rw [rowOf_ix, pay63_apply, pay64_apply]
  by_cases h : (ix3 b i e 0).val = 0
  · rw [if_pos h, e0 h, colOf_zero b i h]
  · rw [if_neg h, e1 h, colOf_one b i h]

/-- The offsets of a group's heads. -/
def Offs.At (o : Offs) (g : Fin 8) : Prop :=
  (∀ h b, o.ko h b = ![8 * g.val + h.val, b.val, 0, 0]) ∧ (∀ h b, o.vo h b = ![8 * g.val + h.val, b.val, 0, 0])

theorem at0 (c : Dev nD) : (offs0 c).At c := by
  refine ⟨fun h b => ?_, fun h b => ?_⟩
  all_goals match b with
  | 0 => first | exact k0_off1_eq c h | exact k0_off2_eq c h
  | 1 => first | exact k0_off3_eq c h | exact k0_off4_eq c h

theorem atR (c : Dev nD) (r : Fin 3) (k : Fin 5) (hk : k.val = r.val + 1) : (offsR c r).At (src true k c) := by
  have hv : (src true k c).val = (c.val + 7 - r.val) % 8 := by
    show (c.val + (8 - k.val)) % 8 = _; have := r.isLt; congr 1; omega
  refine ⟨fun h b => ?_, fun h b => ?_⟩
  all_goals rw [hv]
  all_goals match b with
  | 0 => first | exact k0_off5_eq c r h | exact k0_off6_eq c r h
  | 1 => first | exact k0_off7_eq c r h | exact k0_off8_eq c r h

theorem atL (c : Dev nD) (r : Fin 4) (k : Fin 5) (hk : k.val = r.val + 1) : (offsL c r).At (src false k c) := by
  have hv : (src false k c).val = (c.val + r.val + 1) % 8 := by
    show (c.val + k.val) % 8 = _; rw [hk]; rfl
  refine ⟨fun h b => ?_, fun h b => ?_⟩
  all_goals rw [hv]
  all_goals match b with
  | 0 => first | exact k0_off9_eq c r h | exact k0_off10_eq c r h
  | 1 => first | exact k0_off11_eq c r h | exact k0_off12_eq c r h

/-- A head's context at an index. -/
theorem ctxOf_apply (o : Offs) (g : Fin 8) (ho : o.At g) (q : Vec Ideal S512x1024 .bf16) (K : Vec Ideal S64x2x64x512 .bf16) (V : Vec Ideal S64x2x65x512 .bf16)
    (h : Fin 8) (d : Fin 64) (b : Fin 2) (i : Fin 512) :
    ctxOf o q K V (ix2 ⟨64 * h.val + d.val, by omega⟩ (colOf b i))
      = Ideal.div (∑ j, V (ix4 ⟨8 * g.val + h.val, by omega⟩ b ⟨d.val, by omega⟩ j)
            * Ideal.exp (∑ d' : Fin 64, q (ix2 ⟨64 * h.val + d'.val, by omega⟩ (colOf b i)) * K (ix4 ⟨8 * g.val + h.val, by omega⟩ b d' j) + if Sees i j then 0 else ⊥))
          (∑ j, V (ix4 ⟨8 * g.val + h.val, by omega⟩ b 64 j)
            * Ideal.exp (∑ d' : Fin 64, q (ix2 ⟨64 * h.val + d'.val, by omega⟩ (colOf b i)) * K (ix4 ⟨8 * g.val + h.val, by omega⟩ b d' j) + if Sees i j then 0 else ⊥)) := by
  have hq : ∀ d' : Fin 64, (hRect h b).emb (ix2 d' i) = ix2 ⟨64 * h.val + d'.val, by omega⟩ (colOf b i) := by
    intro d'; funext a; apply Fin.ext
    match a with
    | ⟨0, _⟩ => show 64 * h.val + 1 * d'.val = _; rw [one_mul]; rfl
    | ⟨1, _⟩ => show 512 * b.val + 1 * i.val = _; rw [one_mul]; rfl
  rw [← hq d, ctxOf_emb]
  unfold headVal
  rw [pay7_apply]
  have hk : ∀ (d' : Fin 64) (j : Fin 512), kAt o K h b (ix4 0 0 d' j) = K (ix4 ⟨8 * g.val + h.val, by omega⟩ b d' j) := by
    intro d' j; unfold kAt; congr 1; funext a; apply Fin.ext
    have e := ho.1 h b
    match a with
    | ⟨0, _⟩ => show o.ko h b 0 + 1 * 0 = _; rw [e]; rfl
    | ⟨1, _⟩ => show o.ko h b 1 + 1 * 0 = _; rw [e]; rfl
    | ⟨2, _⟩ => show o.ko h b 2 + 1 * d'.val = _; rw [e]; show 0 + 1 * d'.val = d'.val; omega
    | ⟨3, _⟩ => show o.ko h b 3 + 1 * j.val = _; rw [e]; show 0 + 1 * j.val = j.val; omega
  have hv : ∀ (d' : Fin 65) (j : Fin 512), vAt o V h b (ix4 0 0 d' j) = V (ix4 ⟨8 * g.val + h.val, by omega⟩ b d' j) := by
    intro d' j; unfold vAt; congr 1; funext a; apply Fin.ext
    have e := ho.2 h b
    match a with
    | ⟨0, _⟩ => show o.vo h b 0 + 1 * 0 = _; rw [e]; rfl
    | ⟨1, _⟩ => show o.vo h b 1 + 1 * 0 = _; rw [e]; rfl
    | ⟨2, _⟩ => show o.vo h b 2 + 1 * d'.val = _; rw [e]; show 0 + 1 * d'.val = d'.val; omega
    | ⟨3, _⟩ => show o.vo h b 3 + 1 * j.val = _; rw [e]; show 0 + 1 * j.val = j.val; omega
  have hqa : ∀ d' : Fin 64, qAt q h b (ix2 d' i) = q (ix2 ⟨64 * h.val + d'.val, by omega⟩ (colOf b i)) := fun d' => by
    unfold qAt; rw [hq]
  simp only [hk, hv, hqa, bias_apply]

end Cert.KernelIdeal.Body

end
-- ==== Proof.HVal.lean ====
module

public import proofs.«01_k».proof.Proof.Win
public import Idealize.ShloMosaic.Lib.Pointwise
public import Idealize.ShloMosaic.Lib.StableHlo.ReadAt
public import Idealize.ShloMosaic.Lib.IdealHost

/-!
# What the kernel is called with, at an index

The operands of the call, element by element, over the device's arguments.
-/

@[expose] public section

set_option maxRecDepth 16384

noncomputable section

namespace Cert.KernelIdeal.Body

open Idealize.ShloMosaic Idealize.ShloMosaic.TcCoe
open Cert.KernelIdeal Cert.KernelIdeal.Gen

variable (m : (ℓ : Loc nD τ sig) → Buf (Elt Ideal) ℓ) (c : Dev nD)

/-- The arguments of device `c`. -/
abbrev aX : FVec Ideal S2x512x768 .f32 := m ((c : Thread nD τ).loc main_arg0)
abbrev aWq : FVec Ideal S768x512 .f32 := m ((c : Thread nD τ).loc main_arg1)
abbrev aK : FVec Ideal S16x512x64x64 .f32 := m ((c : Thread nD τ).loc main_arg2)
abbrev aV : FVec Ideal S16x512x64x64 .f32 := m ((c : Thread nD τ).loc main_arg3)
abbrev aWo : FVec Ideal S512x768 .f32 := m ((c : Thread nD τ).loc main_arg4)

theorem xOf_apply (b : Fin 2) (i : Fin 512) (e : Fin 768) :
    xOf (F := Ideal) (V1 m) c (ix3 b i e) = aX m c (ix3 b i e) * Ideal.ofBits .f32 0x3E000000#32 := by
  unfold xOf V1
  after_reads_at

theorem wOf_zero (i : Fin 512) (e : Fin 768) : wOf (F := Ideal) (V1 m) c (ix3 0 i e) = aWq m c (ix2 e i) := by
  unfold wOf V1
  after_reads_at
  after_reads_at

theorem wOf_one (i : Fin 512) (e : Fin 768) : wOf (F := Ideal) (V1 m) c (ix3 1 i e) = aWo m c (ix2 i e) := by
  unfold wOf V1
  after_reads_at
  after_reads_at

theorem start_word : ∀ c : Dev nD, Scalar.select (IntOp.cmpi .slt (IntOp.muli 2#32 (IntOp.remui .host (IntOp.divui .host (Dev.word c) 1#32) 8#32)) 0#32)
    (IntOp.addi (IntOp.muli 2#32 (IntOp.remui .host (IntOp.divui .host (Dev.word c) 1#32) 8#32)) 16#32)
    (IntOp.muli 2#32 (IntOp.remui .host (IntOp.divui .host (Dev.word c) 1#32) 8#32)) = BitVec.ofNat 32 (2 * c.val) := by decide +kernel

theorem clamp_start : ∀ c : Dev nD, (min (max (BitVec.toInt (BitVec.ofNat 32 (2 * c.val))) 0) ((16 - 2 : ℕ) : ℤ)).toNat = 2 * c.val := by decide +kernel

theorem start25_0 : StableHlo.upto (hostOps0 c) (V0 m c) 25 (Proc.tc.devRef main_v16) (Shape.Idx.first h_S_) = BitVec.ofNat 32 (2 * c.val) := by
  after_reads_at
  exact start_word c
theorem start25_1 : StableHlo.upto (hostOps0 c) (V0 m c) 25 (Proc.tc.devRef main_c_4) (Shape.Idx.first h_S_) = 0#32 := by
  after_reads_at
theorem start25_2 : StableHlo.upto (hostOps0 c) (V0 m c) 25 (Proc.tc.devRef main_c_5) (Shape.Idx.first h_S_) = 0#32 := by
  after_reads_at
theorem start25_3 : StableHlo.upto (hostOps0 c) (V0 m c) 25 (Proc.tc.devRef main_c_6) (Shape.Idx.first h_S_) = 0#32 := by
  after_reads_at

theorem start36_0 : StableHlo.upto (hostOps0 c) (V0 m c) 36 (Proc.tc.devRef main_v21) (Shape.Idx.first h_S_) = BitVec.ofNat 32 (2 * c.val) := by
  after_reads_at
  exact start_word c
theorem start36_1 : StableHlo.upto (hostOps0 c) (V0 m c) 36 (Proc.tc.devRef main_c_10) (Shape.Idx.first h_S_) = 0#32 := by
  after_reads_at
theorem start36_2 : StableHlo.upto (hostOps0 c) (V0 m c) 36 (Proc.tc.devRef main_c_11) (Shape.Idx.first h_S_) = 0#32 := by
  after_reads_at
theorem start36_3 : StableHlo.upto (hostOps0 c) (V0 m c) 36 (Proc.tc.devRef main_c_12) (Shape.Idx.first h_S_) = 0#32 := by
  after_reads_at

/-- The keys of the device's two batch rows. -/
theorem kOf_apply (h : Fin 64) (b : Fin 2) (d : Fin 64) (i : Fin 512) :
    kOf (F := Ideal) (V1 m) c (ix4 h b d i) = aK m c (ix4 ⟨2 * c.val + b.val, by have : c.val < 8 := c.isLt; omega⟩ i h d) := by
  unfold kOf V1
  after_reads_at
  simp only [Host.clampedStart]
  refine congrArg (V0 m c (Proc.tc.devRef main_arg2)) ?_
  funext a; apply Fin.ext
  match a with
  | ⟨0, _⟩ =>
    show (min (max (BitVec.toInt (StableHlo.upto (hostOps0 c) (V0 m c) 25 (Proc.tc.devRef main_v16) (Shape.Idx.first h_S_))) 0) ((16 - 2 : ℕ) : ℤ)).toNat + b.val = _
    rw [start25_0]
    rw [clamp_start]; rfl
  | ⟨1, _⟩ =>
    show (min (max (BitVec.toInt (StableHlo.upto (hostOps0 c) (V0 m c) 25 (Proc.tc.devRef main_c_4) (Shape.Idx.first h_S_))) 0) ((512 - 512 : ℕ) : ℤ)).toNat + i.val = _
    rw [start25_1]
    exact Nat.zero_add _
  | ⟨2, _⟩ =>
    show (min (max (BitVec.toInt (StableHlo.upto (hostOps0 c) (V0 m c) 25 (Proc.tc.devRef main_c_5) (Shape.Idx.first h_S_))) 0) ((64 - 64 : ℕ) : ℤ)).toNat + h.val = _
    rw [start25_2]
    exact Nat.zero_add _
  | ⟨3, _⟩ =>
    show (min (max (BitVec.toInt (StableHlo.upto (hostOps0 c) (V0 m c) 25 (Proc.tc.devRef main_c_6) (Shape.Idx.first h_S_))) 0) ((64 - 64 : ℕ) : ℤ)).toNat + d.val = _
    rw [start25_3]
    exact Nat.zero_add _

/-- The values of the device's two batch rows. -/
theorem vOf_apply (h : Fin 64) (b : Fin 2) (d : Fin 64) (i : Fin 512) :
    vOf (F := Ideal) (V1 m) c (ix4 h b ⟨d.val, by omega⟩ i) = aV m c (ix4 ⟨2 * c.val + b.val, by have : c.val < 8 := c.isLt; omega⟩ i h d) := by
  unfold vOf V1
  after_reads_at
  simp only [Host.clampedStart]
  refine congrArg (V0 m c (Proc.tc.devRef main_arg3)) ?_
  funext a; apply Fin.ext
  match a with
  | ⟨0, _⟩ =>
    show (min (max (BitVec.toInt (StableHlo.upto (hostOps0 c) (V0 m c) 36 (Proc.tc.devRef main_v21) (Shape.Idx.first h_S_))) 0) ((16 - 2 : ℕ) : ℤ)).toNat + b.val = _
    rw [start36_0]
    rw [clamp_start]; rfl
  | ⟨1, _⟩ =>
    show (min (max (BitVec.toInt (StableHlo.upto (hostOps0 c) (V0 m c) 36 (Proc.tc.devRef main_c_10) (Shape.Idx.first h_S_))) 0) ((512 - 512 : ℕ) : ℤ)).toNat + i.val = _
    rw [start36_1]
    exact Nat.zero_add _
  | ⟨2, _⟩ =>
    show (min (max (BitVec.toInt (StableHlo.upto (hostOps0 c) (V0 m c) 36 (Proc.tc.devRef main_c_11) (Shape.Idx.first h_S_))) 0) ((64 - 64 : ℕ) : ℤ)).toNat + h.val = _
    rw [start36_2]
    exact Nat.zero_add _
  | ⟨3, _⟩ =>
    show (min (max (BitVec.toInt (StableHlo.upto (hostOps0 c) (V0 m c) 36 (Proc.tc.devRef main_c_12) (Shape.Idx.first h_S_))) 0) ((64 - 64 : ℕ) : ℤ)).toNat + d.val = _
    rw [start36_3]
    exact Nat.zero_add _

/-- The row of ones. -/
theorem vOf_one (h : Fin 64) (b : Fin 2) (i : Fin 512) : vOf (F := Ideal) (V1 m) c (ix4 h b 64 i) = (1 : EReal) := by
  unfold vOf V1
  after_reads_at

end Cert.KernelIdeal.Body

end
-- ==== Proof.Stages.lean ====
module

public import proofs.«01_k».proof.Proof.Gen.ReferenceIdeal.Run
public import Idealize.ShloMosaic.Lib.Pointwise

/-!
# The reference in stages

The reference's result as a composition of named stages: the mask, the scores, their largest, the
exponentials, the weights, the context and the projection.
-/

@[expose] public section

set_option maxRecDepth 16384

noncomputable section

namespace Cert.ReferenceIdeal.Stages

open Idealize.ShloMosaic Idealize.ShloMosaic.TcCoe
open Cert.ReferenceIdeal Cert.ReferenceIdeal.Gen Cert.ReferenceIdeal.Value

variable {F : FTy → Type} [FloatOps F]

/-- The block of a place. -/
def blkW : IVec S512 32 :=
  select (andi (cmpi .ne (signi (iotaInDim S512 32 0)) (broadcastInDim S512 ![] bcast_S_S512 (signi (id (constantI S_ 32 64#32))))) (cmpi .ne (Host.remsi (iotaInDim S512 32 0) (broadcastInDim S512 ![] bcast_S_S512 (id (constantI S_ 32 64#32)))) (broadcastInDim S512 ![] bcast_S_S512 (constantI S_ 32 0#32)))) (subi (Host.divsi (iotaInDim S512 32 0) (broadcastInDim S512 ![] bcast_S_S512 (id (constantI S_ 32 64#32)))) (broadcastInDim S512 ![] bcast_S_S512 (constantI S_ 32 1#32))) (Host.divsi (iotaInDim S512 32 0) (broadcastInDim S512 ![] bcast_S_S512 (id (constantI S_ 32 64#32))))

/-- Whether a query sees a key. -/
def seesW : IVec S512x512 1 :=
  ori (ori (cmpi .eq (broadcastInDim S512x512 ![0, 1] bcast_S512x1_S512x512_0_1 (broadcastInDim S512x1 ![0] bcast_S512_S512x1_0 blkW)) (broadcastInDim S512x512 ![0, 1] bcast_S1x512_S512x512_0_1 (broadcastInDim S1x512 ![1] bcast_S512_S1x512_1 blkW))) (broadcastInDim S512x512 ![0, 1] bcast_S1x512_S512x512_0_1 (cmpi .eq (broadcastInDim S1x512 ![1] bcast_S512_S1x512_1 blkW) (broadcastInDim S1x512 ![] bcast_S_S1x512 (constantI S_ 32 0#32))))) (cmpi .eq (select (andi (cmpi .ne (cmpi .slt (Host.remsi (addi (broadcastInDim S512x512 ![0, 1] bcast_S512x1_S512x512_0_1 (broadcastInDim S512x1 ![0] bcast_S512_S512x1_0 blkW)) (broadcastInDim S512x512 ![0, 1] bcast_S1x512_S512x512_0_1 (broadcastInDim S1x512 ![1] bcast_S512_S1x512_1 blkW))) (broadcastInDim S512x512 ![] bcast_S_S512x512 (select (cmpi .eq (id (constantI S_ 32 3#32)) (constantI S_ 32 0#32)) (constantI S_ 32 1#32) (id (constantI S_ 32 3#32))))) (broadcastInDim S512x512 ![] bcast_S_S512x512 (constantI S_ 32 0#32))) (broadcastInDim S512x512 ![] bcast_S_S512x512 (cmpi .slt (select (cmpi .eq (id (constantI S_ 32 3#32)) (constantI S_ 32 0#32)) (constantI S_ 32 1#32) (id (constantI S_ 32 3#32))) (constantI S_ 32 0#32)))) (cmpi .ne (Host.remsi (addi (broadcastInDim S512x512 ![0, 1] bcast_S512x1_S512x512_0_1 (broadcastInDim S512x1 ![0] bcast_S512_S512x1_0 blkW)) (broadcastInDim S512x512 ![0, 1] bcast_S1x512_S512x512_0_1 (broadcastInDim S1x512 ![1] bcast_S512_S1x512_1 blkW))) (broadcastInDim S512x512 ![] bcast_S_S512x512 (select (cmpi .eq (id (constantI S_ 32 3#32)) (constantI S_ 32 0#32)) (constantI S_ 32 1#32) (id (constantI S_ 32 3#32))))) (broadcastInDim S512x512 ![] bcast_S_S512x512 (constantI S_ 32 0#32)))) (addi (Host.remsi (addi (broadcastInDim S512x512 ![0, 1] bcast_S512x1_S512x512_0_1 (broadcastInDim S512x1 ![0] bcast_S512_S512x1_0 blkW)) (broadcastInDim S512x512 ![0, 1] bcast_S1x512_S512x512_0_1 (broadcastInDim S1x512 ![1] bcast_S512_S1x512_1 blkW))) (broadcastInDim S512x512 ![] bcast_S_S512x512 (select (cmpi .eq (id (constantI S_ 32 3#32)) (constantI S_ 32 0#32)) (constantI S_ 32 1#32) (id (constantI S_ 32 3#32))))) (broadcastInDim S512x512 ![] bcast_S_S512x512 (select (cmpi .eq (id (constantI S_ 32 3#32)) (constantI S_ 32 0#32)) (constantI S_ 32 1#32) (id (constantI S_ 32 3#32))))) (Host.remsi (addi (broadcastInDim S512x512 ![0, 1] bcast_S512x1_S512x512_0_1 (broadcastInDim S512x1 ![0] bcast_S512_S512x1_0 blkW)) (broadcastInDim S512x512 ![0, 1] bcast_S1x512_S512x512_0_1 (broadcastInDim S1x512 ![1] bcast_S512_S1x512_1 blkW))) (broadcastInDim S512x512 ![] bcast_S_S512x512 (select (cmpi .eq (id (constantI S_ 32 3#32)) (constantI S_ 32 0#32)) (constantI S_ 32 1#32) (id (constantI S_ 32 3#32)))))) (broadcastInDim S512x512 ![] bcast_S_S512x512 (constantI S_ 32 0#32)))

/-- Whether a query sees any key. -/
def keepW : IVec S512 1 :=
  Host.reduce IntOp.ori seesW (constantI S_ 1 0#1) reducesTo_S512x512_S512_d1 h_S_

/-- The scores, −∞ where a query does not see a key. -/
def scores (x : FVec F S16x512x768 .f32) (wq : FVec F S768x4096 .f32) (k : FVec F S16x512x64x64 .f32) : FVec F S16x64x512x512 .f32 :=
  select (broadcastInDim S16x64x512x512 ![0, 1, 2, 3] bcast_S1x1x512x512_S16x64x512x512_0_1_2_3 (broadcastInDim S1x1x512x512 ![2, 3] bcast_S512x512_S1x1x512x512_2_3 seesW)) (mulf (Host.dotGeneral dot_S16x512x64x64_S16x512x64x64_S16x64x512x512_3_3_1_1_02_02 none (shapeCast _ (Host.dotGeneral dot_S16x512x768_S768x4096_S16x512x4096_2_0_01_1_n_n none x wq) shapeCasts_S16x512x4096_S16x512x64x64) k) (broadcastInDim S16x64x512x512 ![] bcast_S_S16x64x512x512 (constant S_ .f32 0x3E000000#32))) (broadcastInDim S16x64x512x512 ![] bcast_S_S16x64x512x512 (id (constant S_ .f32 0xFF800000#32)))

/-- The largest score of a query. -/
def best (x : FVec F S16x512x768 .f32) (wq : FVec F S768x4096 .f32) (k : FVec F S16x512x64x64 .f32) : FVec F S16x64x512 .f32 :=
  Host.reduce FloatOps.maximumf (scores x wq k) (constant S_ .f32 0xFF800000#32) reducesTo_S16x64x512x512_S16x64x512_d3 h_S_

/-- The exponentials of the scores less the largest. -/
def grown (x : FVec F S16x512x768 .f32) (wq : FVec F S768x4096 .f32) (k : FVec F S16x512x64x64 .f32) : FVec F S16x64x512x512 .f32 :=
  Host.exp (subf (scores x wq k) (broadcastInDim S16x64x512x512 ![0, 1, 2, 3] bcast_S16x64x512x1_S16x64x512x512_0_1_2_3 (broadcastInDim S16x64x512x1 ![0, 1, 2] bcast_S16x64x512_S16x64x512x1_0_1_2 (best x wq k))))

/-- The sum of the exponentials. -/
def total (x : FVec F S16x512x768 .f32) (wq : FVec F S768x4096 .f32) (k : FVec F S16x512x64x64 .f32) : FVec F S16x64x512 .f32 :=
  Host.reduceAdd (grown x wq k) (constant S_ .f32 0x00000000#32) reducesTo_S16x64x512x512_S16x64x512_d3 h_S_

/-- The attention weights. -/
def weights (x : FVec F S16x512x768 .f32) (wq : FVec F S768x4096 .f32) (k : FVec F S16x512x64x64 .f32) : FVec F S16x64x512x512 .f32 :=
  select (broadcastInDim S16x64x512x512 ![0, 1, 2, 3] bcast_S1x1x512x1_S16x64x512x512_0_1_2_3 (broadcastInDim S1x1x512x1 ![2] bcast_S512_S1x1x512x1_2 keepW)) (Host.divf (grown x wq k) (broadcastInDim S16x64x512x512 ![0, 1, 2, 3] bcast_S16x64x512x1_S16x64x512x512_0_1_2_3 (select (broadcastInDim S16x64x512x1 ![0, 1, 2, 3] bcast_S1x1x512x1_S16x64x512x1_0_1_2_3 (broadcastInDim S1x1x512x1 ![2] bcast_S512_S1x1x512x1_2 keepW)) (broadcastInDim S16x64x512x1 ![0, 1, 2] bcast_S16x64x512_S16x64x512x1_0_1_2 (total x wq k)) (broadcastInDim S16x64x512x1 ![] bcast_S_S16x64x512x1 (id (constant S_ .f32 0x3F800000#32)))))) (broadcastInDim S16x64x512x512 ![] bcast_S_S16x64x512x512 (id (constant S_ .f32 0x00000000#32)))

/-- The result. -/
def result (x : FVec F S16x512x768 .f32) (wq : FVec F S768x4096 .f32) (k : FVec F S16x512x64x64 .f32) (v : FVec F S16x512x64x64 .f32) (wo : FVec F S4096x768 .f32) : FVec F S16x512x768 .f32 :=
  Host.dotGeneral dot_S16x512x4096_S4096x768_S16x512x768_2_0_01_1_n_n none (shapeCast _ (transpose S16x512x64x64 [0, 3, 1, 2] (Host.dotGeneral dot_S16x512x64x64_S16x64x512x512_S16x64x64x512_1_3_3_2_02_01 none v (weights x wq k)) transposes_S16x64x64x512_S16x512x64x64_0_3_1_2) shapeCasts_S16x512x64x64_S16x512x4096) wo

theorem res_eq (m : (ℓ : Loc nD τ sig) → Buf (Elt F) ℓ) (c : Dev nD) :
    res_main_v44 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.ReferenceIdeal.Stages

end
-- ==== Proof.RVal.lean ====
module

public import proofs.«01_k».proof.Proof.Stages
public import Idealize.ShloMosaic.Lib.Pointwise
public import Idealize.ShloMosaic.Lib.IdealHost
public import proofs.«01_k».proof.Proof.Softmax

/-!
# The reference at an index

Each stage of the reference at an index, and the context of a head as one quotient when its scores are real.
-/

@[expose] public section

set_option maxRecDepth 16384

noncomputable section

namespace Cert.ReferenceIdeal.Stages

open Idealize.ShloMosaic Idealize.ShloMosaic.TcCoe
open Cert.ReferenceIdeal Cert.ReferenceIdeal.Gen

variable (x : FVec Ideal S16x512x768 .f32) (wq : FVec Ideal S768x4096 .f32) (k : FVec Ideal S16x512x64x64 .f32)
  (v : FVec Ideal S16x512x64x64 .f32) (wo : FVec Ideal S4096x768 .f32)

open Cert.Softmax

/-- The scale is an eighth. -/
theorem ofBits_eighth : Ideal.ofBits .f32 0x3E000000#32 = (((1 : ℝ) / 8 : ℝ) : EReal) := by
  simp [Ideal.ofBits, Ideal.ieee, -EReal.coe_mul]; norm_num

/-- The mask's value is −∞. -/
theorem ofBits_neg_inf : Ideal.ofBits .f32 0xFF800000#32 = ⊥ := by
  simp [Ideal.ofBits, Ideal.ieee]

theorem blkW_apply (i : Fin 512) : blkW (ix1 i) = BitVec.ofNat 32 (i.val / 64) := by
  pointwise [blkW]
  simp only [id, constantI]
  revert i
  decide +kernel

theorem seesW_apply (i j : Fin 512) : seesW (ix2 i j) = if Sees i j then 1#1 else 0#1 := by
  pointwise [seesW]
  simp only [blkW_apply]
  simp only [id, constantI]
  have key : ∀ a b : Fin 8, (IntOp.ori
      (IntOp.ori (IntOp.cmpi CmpIPredicate.eq (BitVec.ofNat 32 a) (BitVec.ofNat 32 b))
        (IntOp.cmpi CmpIPredicate.eq (BitVec.ofNat 32 b) 0#32))
      (IntOp.cmpi CmpIPredicate.eq
        (Scalar.select
          (IntOp.andi
            (IntOp.cmpi CmpIPredicate.ne
              (IntOp.cmpi CmpIPredicate.slt
                (IntOp.remsi ArithUnit.host (IntOp.addi (BitVec.ofNat 32 a) (BitVec.ofNat 32 b))
                  (Scalar.select (IntOp.cmpi CmpIPredicate.eq 3#32 0#32) (1#32) 3#32))
                0#32)
              (IntOp.cmpi CmpIPredicate.slt
                (Scalar.select (IntOp.cmpi CmpIPredicate.eq 3#32 0#32) (1#32) 3#32)
                0#32))
            (IntOp.cmpi CmpIPredicate.ne
              (IntOp.remsi ArithUnit.host (IntOp.addi (BitVec.ofNat 32 a) (BitVec.ofNat 32 b))
                (Scalar.select (IntOp.cmpi CmpIPredicate.eq 3#32 0#32) (1#32) 3#32))
              0#32))
          (IntOp.addi
            (IntOp.remsi ArithUnit.host (IntOp.addi (BitVec.ofNat 32 a) (BitVec.ofNat 32 b))
              (Scalar.select (IntOp.cmpi CmpIPredicate.eq 3#32 0#32) (1#32) 3#32))
            (Scalar.select (IntOp.cmpi CmpIPredicate.eq 3#32 0#32) (1#32) 3#32))
          (IntOp.remsi ArithUnit.host (IntOp.addi (BitVec.ofNat 32 a) (BitVec.ofNat 32 b))
            (Scalar.select (IntOp.cmpi CmpIPredicate.eq 3#32 0#32) (1#32) 3#32)))
        0#32)) = if (a.val = b.val ∨ b.val = 0 ∨ (a.val + b.val) % 3 = 0) then 1#1 else 0#1 := by
    decide +kernel
  exact key ⟨i.val / 64, by omega⟩ ⟨j.val / 64, by omega⟩

theorem sees_first (i : Fin 512) : Sees i (0 : Fin 512) := .inr (.inl rfl)

theorem keepW_apply (i : Fin 512) : keepW (ix1 i) = 1#1 := by
  pointwise [keepW]
  have hor : ∀ a : BitVec 1, IntOp.ori 1#1 a = 1#1 := by decide
  have e : (Finset.univ : Finset (Fin 512)) = insert 0 (Finset.univ.erase 0) := (Finset.insert_erase (Finset.mem_univ _)).symm
  rw [e, Finset.fold_insert (Finset.notMem_erase _ _), seesW_apply, if_pos (sees_first i)]
  exact hor _

theorem scores_apply (b : Fin 16) (h : Fin 64) (i j : Fin 512) : scores x wq k (ix4 b h i j)
    = if Sees i j then (∑ d : Fin 64, (∑ e : Fin 768, x (ix3 b i e) * wq (ix2 e ⟨h.val * 64 + d.val, by omega⟩)) * k (ix4 b j h d)) * (((1 : ℝ) / 8 : ℝ) : EReal)
      else ⊥ := by
  pointwise [scores]
  rw [seesW_apply, ofBits_eighth]
  by_cases hs : Sees i j
  · rw [if_pos hs, if_pos hs]; rfl
  · rw [if_neg hs, if_neg hs]; exact ofBits_neg_inf

theorem best_apply (b : Fin 16) (h : Fin 64) (i : Fin 512) : best x wq k (ix3 b h i)
    = Finset.fold max (⊥ : EReal) (fun j => scores x wq k (ix4 b h i j)) Finset.univ := by
  pointwise [best]
  rw [ofBits_neg_inf]

theorem grown_apply (b : Fin 16) (h : Fin 64) (i j : Fin 512) : grown x wq k (ix4 b h i j)
    = Ideal.exp (scores x wq k (ix4 b h i j) - best x wq k (ix3 b h i)) := by
  pointwise [grown]

theorem total_apply (b : Fin 16) (h : Fin 64) (i : Fin 512) : total x wq k (ix3 b h i) = ∑ j, grown x wq k (ix4 b h i j) := by
  pointwise [total]

theorem weights_apply (b : Fin 16) (h : Fin 64) (i j : Fin 512) : weights x wq k (ix4 b h i j)
    = Ideal.div (grown x wq k (ix4 b h i j)) (total x wq k (ix3 b h i)) := by
  pointwise [weights]
  rw [keepW_apply]; rfl

theorem result_apply (b : Fin 16) (i : Fin 512) (e : Fin 768) : result x wq k v wo (ix3 b i e)
    = ∑ n : Fin 4096, (∑ j : Fin 512, v (ix4 b j ⟨n.val / 64, by omega⟩ ⟨n.val % 64, by omega⟩) * weights x wq k (ix4 b ⟨n.val / 64, by omega⟩ i j)) * wo (ix2 n e) := by
  pointwise [result]

/-- The scores of a query of head `h`. -/
def scoreOf (b : Fin 16) (h : Fin 64) (i j : Fin 512) : ℝ :=
  score (fun e => (x (ix3 b i e)).toReal) (fun d e => (wq (ix2 e ⟨h.val * 64 + d.val, by omega⟩)).toReal) (fun d => (k (ix4 b j h d)).toReal) (1 / 8)

/-- The context of a head at a query, divided at the end. -/
theorem ctx_eq (hx : ∀ i, x i = ((x i).toReal : EReal)) (hw : ∀ i, wq i = ((wq i).toReal : EReal)) (hk : ∀ i, k i = ((k i).toReal : EReal))
    (b : Fin 16) (h d : Fin 64) (i : Fin 512) :
    ∑ j : Fin 512, v (ix4 b j h d) * weights x wq k (ix4 b h i j)
      = Ideal.div (∑ j : Fin 512, v (ix4 b j h d) * Ideal.exp ((scoreOf x wq k b h i j : EReal) + if Sees i j then 0 else ⊥))
          (∑ j : Fin 512, 1 * Ideal.exp ((scoreOf x wq k b h i j : EReal) + if Sees i j then 0 else ⊥)) := by
  have hs : ∀ j : Fin 512, scores x wq k (ix4 b h i j) = if Sees i j then (scoreOf x wq k b h i j : EReal) else ⊥ := by
    intro j
    rw [scores_apply, scoreOf, ← score_after]
    simp only [← hx, ← hw, ← hk]
  rw [row (fun j : Fin 512 => Sees i j) (fun j => scoreOf x wq k b h i j) (fun j => v (ix4 b j h d)) 0 (sees_first i)]
  simp only [weights_apply, total_apply, grown_apply, best_apply, hs]

end Cert.ReferenceIdeal.Stages

end
-- ==== Proof.Agree.lean ====
module

public import proofs.«01_k».proof.Proof.KVal
public import proofs.«01_k».proof.Proof.HVal
public import proofs.«01_k».proof.Proof.RVal
public import Idealize.ShloMosaic.Lib.Pipeline.ValueKit.Acc

/-!
# The kernel's result is the reference's

Device `c`'s result is rows `2 c` and `2 c + 1` of the reference's: each block of eight heads gives its part of
the last contraction, and the eight parts, added in the order the blocks come, are the whole of it.
-/

@[expose] public section

set_option maxRecDepth 16384

noncomputable section

namespace Cert.KernelIdeal.Body

open Idealize.ShloMosaic Idealize.ShloMosaic.TcCoe
open Cert.KernelIdeal Cert.KernelIdeal.Gen
open Cert.Softmax
open Cert.ReferenceIdeal.Stages (weights scoreOf ctx_eq result result_apply ofBits_eighth)

/-- The eight blocks in the order they come are all the blocks. -/
theorem sum_order (G : Fin 8 → EReal) (c : Fin 8) :
    G c + G (src true 1 c) + G (src false 1 c) + G (src true 2 c) + G (src false 2 c) + G (src true 3 c) + G (src false 3 c) + G (src false 4 c)
      = ∑ g : Fin 8, G g := by
  fin_cases c
  · refine Eq.trans (b := G 0 + G 7 + G 1 + G 6 + G 2 + G 5 + G 3 + G 4) rfl ?_
    rw [Fin.sum_univ_eight]; abel
  · refine Eq.trans (b := G 1 + G 0 + G 2 + G 7 + G 3 + G 6 + G 4 + G 5) rfl ?_
    rw [Fin.sum_univ_eight]; abel
  · refine Eq.trans (b := G 2 + G 1 + G 3 + G 0 + G 4 + G 7 + G 5 + G 6) rfl ?_
    rw [Fin.sum_univ_eight]; abel
  · refine Eq.trans (b := G 3 + G 2 + G 4 + G 1 + G 5 + G 0 + G 6 + G 7) rfl ?_
    rw [Fin.sum_univ_eight]; abel
  · refine Eq.trans (b := G 4 + G 3 + G 5 + G 2 + G 6 + G 1 + G 7 + G 0) rfl ?_
    rw [Fin.sum_univ_eight]; abel
  · refine Eq.trans (b := G 5 + G 4 + G 6 + G 3 + G 7 + G 2 + G 0 + G 1) rfl ?_
    rw [Fin.sum_univ_eight]; abel
  · refine Eq.trans (b := G 6 + G 5 + G 7 + G 4 + G 0 + G 3 + G 1 + G 2) rfl ?_
    rw [Fin.sum_univ_eight]; abel
  · refine Eq.trans (b := G 7 + G 6 + G 0 + G 5 + G 1 + G 4 + G 2 + G 3) rfl ?_
    rw [Fin.sum_univ_eight]; abel

theorem wHalf_apply (W : Vec Ideal S2x512x768 .bf16) (g : Fin 2) (r : Fin 512) (e : Fin 768) : wHalf W g (ix2 r e) = W (ix3 g r e) := by
  show W (ValueIdx.ix3 g r e) = _
  rw [← ix3_eq_valueIdx]

variable (m : (ℓ : Loc nD τ sig) → Buf (Elt Ideal) ℓ)
variable (X : FVec Ideal ⟨3, ![16, 512, 768]⟩ .f32) (Wq : FVec Ideal ⟨2, ![768, 4096]⟩ .f32) (K V : FVec Ideal ⟨4, ![16, 512, 64, 64]⟩ .f32)
  (Wo : FVec Ideal ⟨2, ![4096, 768]⟩ .f32)

/-- A device's batch row in the whole batch. -/
abbrev rowB (c : Dev nD) (b : Fin 2) : Fin 16 := ⟨2 * c.val + b.val, by have : c.val < 8 := c.isLt; omega⟩
/-- A block's place among all places. -/
abbrev placeOf (g : Dev nD) (r : Fin 512) : Fin 4096 := ⟨512 * g.val + r.val, by have : g.val < 8 := g.isLt; omega⟩

/-- Every device holds its block of each array. -/
structure Held : Prop where
  x : ∀ c b i e, aX m c (ix3 b i e) = X (ix3 (rowB c b) i e)
  wq : ∀ c k r, aWq m c (ix2 k r) = Wq (ix2 k (placeOf c r))
  k : ∀ c, aK m c = K
  v : ∀ c, aV m c = V
  wo : ∀ c r e, aWo m c (ix2 r e) = Wo (ix2 (placeOf c r) e)

/-- The arrays the scores come from are real. -/
structure AllReal : Prop where
  x : ∀ i, X i = ((X i).toReal : EReal)
  wq : ∀ i, Wq i = ((Wq i).toReal : EReal)
  k : ∀ i, K i = ((K i).toReal : EReal)

/-- One addend of the last contraction. -/
def addend (b : Fin 16) (i : Fin 512) (e : Fin 768) (n : Fin 4096) : EReal :=
  (∑ j : Fin 512, V (ix4 b j ⟨n.val / 64, by omega⟩ ⟨n.val % 64, by omega⟩) * weights X Wq K (ix4 b ⟨n.val / 64, by omega⟩ i j)) * Wo (ix2 n e)

variable {m X Wq K V Wo}

/-- A weight of a block's projection. -/
theorem weight_eq (hm : Held m X Wq K V Wo) (g : Dev nD) (h : Fin 8) (d : Fin 64) (e : Fin 768) :
    wHalf (wOf (F := Ideal) (V1 m) g) 0 (ix2 ⟨64 * h.val + d.val, by omega⟩ e)
      = Wq (ix2 e ⟨(8 * g.val + h.val) * 64 + d.val, by have : g.val < 8 := g.isLt; omega⟩) := by
  refine ((wHalf_apply _ _ _ _).trans (wOf_zero m g _ _)).trans ((hm.wq g e _).trans (congrArg (fun n => Wq (ix2 e n)) (Fin.ext ?_)))
  show 512 * g.val + (64 * h.val + d.val) = (8 * g.val + h.val) * 64 + d.val
  omega

/-- An element of the rows a device projects. -/
theorem input_eq (hm : Held m X Wq K V Wo) (c : Dev nD) (b : Fin 2) (i : Fin 512) (e : Fin 768) :
    xOf (F := Ideal) (V1 m) c (ix3 ⟨(colOf b i).val / 512, by omega⟩ ⟨(colOf b i).val % 512, by omega⟩ e)
      = X (ix3 (rowB c b) i e) * (((1 : ℝ) / 8 : ℝ) : EReal) := by
  have e2 : (⟨(colOf b i).val / 512, by omega⟩ : Fin 2) = b := Fin.ext (by show (512 * b.val + i.val) / 512 = b.val; omega)
  have e3 : (⟨(colOf b i).val % 512, by omega⟩ : Fin 512) = i := Fin.ext (by show (512 * b.val + i.val) % 512 = i.val; omega)
  rw [e2, e3]
  refine (xOf_apply m c b i e).trans ?_
  exact congrArg₂ (fun a b : EReal => a * b) (hm.x c b i e) ofBits_eighth

/-- The scores of one head of one block. -/
theorem score_eq (hm : Held m X Wq K V Wo) (hr : AllReal X Wq K) (c g : Dev nD) (h : Fin 8) (b : Fin 2) (i j : Fin 512) :
    ∑ d : Fin 64, qPay (wHalf (wOf (F := Ideal) (V1 m) g) 0) (xOf (F := Ideal) (V1 m) c) (ix2 ⟨64 * h.val + d.val, by omega⟩ (colOf b i))
        * kOf (F := Ideal) (V1 m) c (ix4 ⟨8 * g.val + h.val, by have : g.val < 8 := g.isLt; omega⟩ b d j)
      = (scoreOf X Wq K (rowB c b) ⟨8 * g.val + h.val, by have : g.val < 8 := g.isLt; omega⟩ i j : EReal) := by
  refine Eq.trans (Finset.sum_congr rfl fun d _ => ?_) (score_before _ _ _ _)
  refine congrArg₂ (fun a b : EReal => a * b) ?_ ?_
  · refine (qPay_apply _ _ _ _).trans (Finset.sum_congr rfl fun e _ => ?_)
    refine congrArg₂ (fun a b : EReal => a * b) ((weight_eq hm g h d e).trans (hr.wq _)) ((input_eq hm c b i e).trans ?_)
    exact congrArg (fun a : EReal => a * _) (hr.x _)
  · exact ((kOf_apply m c _ b d j).trans (congrFun (hm.k c) _)).trans (hr.k _)

/-- The context one head of one block leaves. -/
theorem head_eq (hm : Held m X Wq K V Wo) (hr : AllReal X Wq K) (c g : Dev nD) (o : Offs) (ho : o.At g) (h : Fin 8) (d : Fin 64) (b : Fin 2) (i : Fin 512) :
    ctxOf o (qPay (wHalf (wOf (F := Ideal) (V1 m) g) 0) (xOf (F := Ideal) (V1 m) c)) (kOf (F := Ideal) (V1 m) c) (vOf (F := Ideal) (V1 m) c)
        (ix2 ⟨64 * h.val + d.val, by omega⟩ (colOf b i))
      = ∑ j : Fin 512, V (ix4 (rowB c b) j ⟨8 * g.val + h.val, by have : g.val < 8 := g.isLt; omega⟩ d)
          * weights X Wq K (ix4 (rowB c b) ⟨8 * g.val + h.val, by have : g.val < 8 := g.isLt; omega⟩ i j) := by
  refine (ctxOf_apply o g ho _ _ _ h d b i).trans (Eq.trans ?_ (ctx_eq X Wq K V hr.x hr.wq hr.k _ _ _ _).symm)
  have hs := fun j => score_eq hm hr c g h b i j
  refine congrArg₂ Ideal.div (Finset.sum_congr rfl fun j _ => ?_) (Finset.sum_congr rfl fun j _ => ?_)
  · refine congrArg₂ (fun a b : EReal => a * b) ((vOf_apply m c _ b d j).trans (congrFun (hm.v c) _)) ?_
    exact congrArg (fun a : EReal => Ideal.exp (a + if Sees i j then 0 else ⊥)) (hs j)
  · refine congrArg₂ (fun a b : EReal => a * b) (vOf_one m c _ b j) ?_
    exact congrArg (fun a : EReal => Ideal.exp (a + if Sees i j then 0 else ⊥)) (hs j)

/-- A block's part of the result. -/
theorem part_eq (hm : Held m X Wq K V Wo) (hr : AllReal X Wq K) (c g : Dev nD) (o : Offs) (ho : o.At g) (b : Fin 2) (i : Fin 512) (e : Fin 768) :
    ∑ r : Fin 512, ctxOf o (qPay (wHalf (wOf (F := Ideal) (V1 m) g) 0) (xOf (F := Ideal) (V1 m) c)) (kOf (F := Ideal) (V1 m) c) (vOf (F := Ideal) (V1 m) c)
        (ix2 r (colOf b i)) * wHalf (wOf (F := Ideal) (V1 m) g) 1 (ix2 r e)
      = ∑ r : Fin 512, addend X Wq K V Wo (rowB c b) i e (placeOf g r) := by
  have hg : g.val < 8 := g.isLt
  refine Finset.sum_congr rfl fun r _ => ?_
  have hrr : r = ⟨64 * (⟨r.val / 64, by omega⟩ : Fin 8).val + (⟨r.val % 64, by omega⟩ : Fin 64).val, by show 64 * (r.val / 64) + r.val % 64 < 512; omega⟩ :=
    Fin.ext (by show r.val = 64 * (r.val / 64) + r.val % 64; omega)
  have hh := head_eq hm hr c g o ho ⟨r.val / 64, by omega⟩ ⟨r.val % 64, by omega⟩ b i
  rw [← hrr] at hh
  rw [hh, wHalf_apply, wOf_one, hm.wo]
  unfold addend
  have e1 : (⟨(placeOf g r).val / 64, by omega⟩ : Fin 64) = ⟨8 * g.val + r.val / 64, by omega⟩ :=
    Fin.ext (by show (512 * g.val + r.val) / 64 = 8 * g.val + r.val / 64; omega)
  have e2 : (⟨(placeOf g r).val % 64, by omega⟩ : Fin 64) = ⟨r.val % 64, by omega⟩ :=
    Fin.ext (by show (512 * g.val + r.val) % 64 = r.val % 64; omega)
  rw [e1, e2]

/-- The result at an index. -/
theorem oOf_apply (hm : Held m X Wq K V Wo) (hr : AllReal X Wq K) (c : Dev nD) (b : Fin 2) (i : Fin 512) (e : Fin 768) :
    oOf (F := Ideal) (V1 m) c (ix3 b i e) = result X Wq K V Wo (ix3 (rowB c b) i e) := by
  rw [result_apply]
  unfold oOf outV partAdd partPut
  simp only [outAdd_apply, outPut_apply]
  rw [show src true 4 c = src false 4 c from by revert c; decide]
  rw [part_eq hm hr c c _ (at0 c), part_eq hm hr c (src true 1 c) _ (atR c 0 1 rfl), part_eq hm hr c (src false 1 c) _ (atL c 0 1 rfl),
    part_eq hm hr c (src true 2 c) _ (atR c 1 2 rfl), part_eq hm hr c (src false 2 c) _ (atL c 1 2 rfl),
    part_eq hm hr c (src true 3 c) _ (atR c 2 3 rfl), part_eq hm hr c (src false 3 c) _ (atL c 2 3 rfl),
    part_eq hm hr c (src false 4 c) _ (atL c 3 4 rfl)]
  rw [sum_order (fun g => ∑ r : Fin 512, addend X Wq K V Wo (rowB c b) i e (placeOf g r)) c]
  refine Fin.sum_mul_add_congr (S := 8) (n := 512) (f := addend X Wq K V Wo (rowB c b) i e) fun g r hl => ?_
  exact congrArg _ (Fin.ext (by show 512 * g.val + r.val = g.val * 512 + r.val; omega))

end Cert.KernelIdeal.Body

end
-- ==== Proof.Finite.lean ====
module

public import proofs.«01_k».proof.Pre_scores_finite_KernelIdeal
public import proofs.«01_k».proof.Pre_scores_finite_ReferenceIdeal
public import Idealize.ShloMosaic.Lib.ReduceAll
public import Idealize.ShloMosaic.PureOps.Ideal.Laws

/-!
# The precondition, read back

The precondition compares the size of every element of the first three arrays with +∞: it holds only where each
of those elements is a real number.
-/

@[expose] public section

set_option maxRecDepth 16384

noncomputable section

namespace Cert.Finite

open Idealize.ShloMosaic

/-- The shapes the precondition states over a device's arrays. -/
theorem facts_device : Cert.Pre_scores_finite_KernelIdeal.Facts where
  bcast_S_S2x512x768 := by decide
  reducesTo_S2x512x768_S_d0_1_2 := by decide
  h_S_ := by decide
  bcast_S_S768x512 := by decide
  reducesTo_S768x512_S_d0_1 := by decide
  bcast_S_S16x512x64x64 := by decide
  reducesTo_S16x512x64x64_S_d0_1_2_3 := by decide

/-- The shapes it states over the whole arrays. -/
theorem facts_whole : Cert.Pre_scores_finite_ReferenceIdeal.Facts where
  bcast_S_S16x512x768 := by decide
  reducesTo_S16x512x768_S_d0_1_2 := by decide
  h_S_ := by decide
  bcast_S_S768x4096 := by decide
  reducesTo_S768x4096_S_d0_1 := by decide
  bcast_S_S16x512x64x64 := by decide
  reducesTo_S16x512x64x64_S_d0_1_2_3 := by decide

theorem ofBits_inf : Ideal.ofBits .f32 0x7F800000#32 = ⊤ := by
  simp [Ideal.ofBits, Ideal.ieee]

/-- An element whose size is under +∞ is real. -/
theorem real_of_lt (a : EReal) (h : Ideal.cmp .olt (max a (-a)) (Ideal.ofBits .f32 0x7F800000#32) = 1#1) : a = (a.toReal : EReal) := by
  rw [ofBits_inf] at h
  have hlt : max a (-a) < ⊤ := by
    by_contra hn
    simp [Ideal.cmp, hn] at h
  obtain ⟨h1, h2⟩ := max_lt_iff.1 hlt
  refine (EReal.coe_toReal h1.ne ?_).symm
  rintro rfl
  exact absurd h2 (by simp)

instance : Subsingleton (Cert.Pre_scores_finite_KernelIdeal.S_).Idx := ⟨fun a b => funext fun i => i.elim0⟩

open Cert.Pre_scores_finite_KernelIdeal in
/-- Where the precondition holds of a device's arrays, the first three are real. -/
theorem real_of_pre [Facts] (x : FVec Ideal S2x512x768 .f32) (wq : FVec Ideal S768x512 .f32) (k v : FVec Ideal S16x512x64x64 .f32) (wo : FVec Ideal S512x768 .f32)
    (h : fn (F := Ideal) x wq k v wo = fun _ => 1#1) :
    (∀ i, x i = ((x i).toReal : EReal)) ∧ (∀ i, wq i = ((wq i).toReal : EReal)) ∧ (∀ i, k i = ((k i).toReal : EReal)) := by
  have h0 := congrFun h (fun i => i.elim0)
  obtain ⟨h01, h2⟩ := IntOp.andi_eq_one.1 h0
  obtain ⟨h0, h1⟩ := IntOp.andi_eq_one.1 h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i)⟩

end Cert.Finite

end
-- ==== Proof.Whole.lean ====
module

public import proofs.«01_k».proof.Defs
public import proofs.«01_k».proof.Proof.Agree
public import proofs.«01_k».proof.Proof.Finite
public import proofs.«01_k».proof.Proof.Start
public import proofs.«01_k».proof.Proof.Gen.ReferenceIdeal.Run

/-!
# The value claim

Where the devices hold their blocks of the reference's arrays and the precondition holds of each device's, every
device's result is its block of the reference's.
-/

@[expose] public section

set_option maxRecDepth 16384

noncomputable section

namespace Cert.Whole

open Idealize.ShloMosaic Idealize.SL.Sem Idealize.ShloMosaic.TcCoe
open Cert.KernelIdeal.Body (Held AllReal rowB placeOf)

variable (m : (ℓ : Loc Cert.KernelIdeal.nD Cert.KernelIdeal.τ Cert.KernelIdeal.sig) → Buf (Elt Ideal) ℓ)
variable (X : FVec Ideal ⟨3, ![16, 512, 768]⟩ .f32) (Wq : FVec Ideal ⟨2, ![768, 4096]⟩ .f32) (K V : FVec Ideal ⟨4, ![16, 512, 64, 64]⟩ .f32)
  (Wo : FVec Ideal ⟨2, ![4096, 768]⟩ .f32)

/-- A device's batch rows at an index. -/
theorem block_rows (c : Fin 8) (h) (b : Fin 2) (i : Fin 512) (e : Fin 768) :
    Layout.block ⟨3, ![2, 512, 768]⟩ ⟨3, ![16, 512, 768]⟩ 0 8 c X h (ix3 b i e) = X (ix3 (rowB c b) i e) := by
  refine congrArg X (funext fun a => Fin.ext ?_)
  match a with
  | ⟨0, _⟩ => show c.val * 2 + b.val = 2 * c.val + b.val; omega
  | ⟨1, _⟩ => rfl
  | ⟨2, _⟩ => rfl

/-- A device's columns of the projection at an index. -/
theorem block_cols (c : Fin 8) (h) (k : Fin 768) (r : Fin 512) :
    Layout.block ⟨2, ![768, 512]⟩ ⟨2, ![768, 4096]⟩ 1 8 c Wq h (ix2 k r) = Wq (ix2 k (placeOf c r)) := by
  refine congrArg Wq (funext fun a => Fin.ext ?_)
  match a with
  | ⟨0, _⟩ => rfl
  | ⟨1, _⟩ => show c.val * 512 + r.val = 512 * c.val + r.val; omega

/-- A device's rows of the last weights at an index. -/
theorem block_out (c : Fin 8) (h) (r : Fin 512) (e : Fin 768) :
    Layout.block ⟨2, ![512, 768]⟩ ⟨2, ![4096, 768]⟩ 0 8 c Wo h (ix2 r e) = Wo (ix2 (placeOf c r) e) := by
  refine congrArg Wo (funext fun a => Fin.ext ?_)
  match a with
  | ⟨0, _⟩ => show c.val * 512 + r.val = 512 * c.val + r.val; omega
  | ⟨1, _⟩ => rfl

/-- Real on every device's rows, the whole input is real. -/
theorem real_rows (hx : ∀ (c : Fin 8) b i e, X (ix3 (rowB c b) i e) = ((X (ix3 (rowB c b) i e)).toReal : EReal)) :
    ∀ i, X i = ((X i).toReal : EReal) := by
  intro i
  have hb : (i 0).val < 16 := (i 0).isLt
  have e0 : i = ix3 (rowB ⟨(i 0).val / 2, show (i 0).val / 2 < 8 by omega⟩ ⟨(i 0).val % 2, by omega⟩) (i 1) (i 2) := by
    refine (eq_ix3 (n0 := 16) (n1 := 512) (n2 := 768) i).trans (congrArg (fun t : Fin 16 => ix3 t (i 1 : Fin 512) (i 2 : Fin 768)) (Fin.ext ?_))
    show (i 0).val = 2 * ((i 0).val / 2) + (i 0).val % 2
    omega
  rw [e0]
  exact hx _ _ _ _

/-- Real on every device's columns, the whole projection is real. -/
theorem real_cols (hx : ∀ (c : Fin 8) k r, Wq (ix2 k (placeOf c r)) = ((Wq (ix2 k (placeOf c r))).toReal : EReal)) :
    ∀ i, Wq i = ((Wq i).toReal : EReal) := by
  intro i
  have hb : (i 1).val < 4096 := (i 1).isLt
  have e0 : i = ix2 (i 0) (placeOf ⟨(i 1).val / 512, show (i 1).val / 512 < 8 by omega⟩ ⟨(i 1).val % 512, by omega⟩) := by
    refine (eq_ix2 (n0 := 768) (n1 := 4096) i).trans (congrArg (fun t : Fin 4096 => ix2 (i 0 : Fin 768) t) (Fin.ext ?_))
    show (i 1).val = 512 * ((i 1).val / 512) + (i 1).val % 512
    omega
  rw [e0]
  exact hx _ _ _

/-- Every device's result is its block of the reference's. -/
theorem block_result (hm : Held m X Wq K V Wo) (hr : AllReal X Wq K) (c : Fin 8) (h) :
    Cert.KernelIdeal.Body.oOf (F := Ideal) (Cert.KernelIdeal.Gen.V1 m) c
      = Layout.block ⟨3, ![2, 512, 768]⟩ ⟨3, ![16, 512, 768]⟩ 0 8 c (Cert.ReferenceIdeal.Stages.result (F := Ideal) X Wq K V Wo) h := by
  funext i
  rw [eq_ix3 (n0 := 2) (n1 := 512) (n2 := 768) i]
  exact (Cert.KernelIdeal.Body.oOf_apply hm hr c (i 0) (i 1) (i 2)).trans
    (block_rows (Cert.ReferenceIdeal.Stages.result (F := Ideal) X Wq K V Wo) c h (i 0) (i 1) (i 2)).symm

/-- The value claim. -/
theorem value : Cert.algebraic_KernelIdeal_ReferenceIdeal_pre_scores_finite_KernelIdeal
    (hKernelIdeal := Cert.KernelIdeal.Gen.facts) (hReferenceIdeal := Cert.ReferenceIdeal.Gen.facts) (hPre_scores_finite_KernelIdeal := Cert.Finite.facts_device) := by
  intro m g m' g' hp hb
  have hreal := fun c => @Cert.Finite.real_of_pre Cert.Finite.facts_device _ _ _ _ _ (hp c)
  have hm : Held m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c b i e => (congrFun (hb c).1 _).trans (block_rows _ c _ b i e)
      wq := fun c k r => (congrFun (hb c).2.1 _).trans (block_cols _ c _ k r)
      k := fun c => (hb c).2.2.1
      v := fun c => (hb c).2.2.2.1
      wo := fun c r e => (congrFun (hb c).2.2.2.2 _).trans (block_out _ c _ r e) }
  have hr : AllReal (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    { x := real_rows _ fun c b i e => by rw [← hm.x c b i e]; exact (hreal c).1 _
      wq := real_cols _ fun c k r => by rw [← hm.wq c k r]; exact (hreal c).2.1 _
      k := fun i => by rw [← hm.k 0]; exact (hreal 0).2.2 _ }
  refine ⟨Cert.ReferenceIdeal.Stages.result (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)), ?_, ?_⟩
  · refine (θ_run (Cert.KernelIdeal.defs (F := Ideal)) _ _).mono (fun r h => ?_) (Cert.KernelIdeal.Body.run_main (F := Ideal) m g)
    intro c
    exact ⟨(h.1 c).2.trans (block_result m _ _ _ _ _ hm hr c _), (h.1 c).1⟩
  · exact (θ_run (Cert.ReferenceIdeal.defs (F := Ideal)) _ _).mono (fun r h => ⟨(h 0).1.trans (Cert.ReferenceIdeal.Stages.res_eq m' 0), (h 0).2⟩) (Cert.ReferenceIdeal.Value.run (F := Ideal) m' g')

end Cert.Whole

end
-- ==== Proof.lean ====
module

public import proofs.«01_k».proof.Defs
public import proofs.«01_k».proof.Proof.Twin
public import proofs.«01_k».proof.Proof.Gen.ReferenceIdeal.Run
public import proofs.«01_k».proof.Proof.Whole

/-!
# The certificate

The kernel's run is proved once, over any float values (`Body.run_main`); the frames are that run with the
values dropped, and the value claim is that run with its values read at an index (`Whole`).
-/

@[expose] public section

noncomputable section

namespace Cert.Proof

open Idealize.ShloMosaic Idealize.SL.Sem

theorem frame_kernel : Cert.quiescent_Kernel := fun m g _ => Cert.Twin.run m g

theorem frame_ideal : Cert.quiescent_KernelIdeal := fun m g _ =>
  (θ_run (Cert.KernelIdeal.defs (F := Ideal)) _ _).mono (fun r h => ⟨fun c => (h.1 c).1, h.2⟩) (Cert.KernelIdeal.Body.run_main (F := Ideal) m g)

theorem frame_reference : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

theorem frame_ideal_finite : Cert.quiescent_KernelIdeal_pre_scores_finite_KernelIdeal
    (hPre_scores_finite_KernelIdeal := Cert.Finite.facts_device) := fun m g _ => frame_ideal m g trivial

theorem frame_reference_finite : Cert.quiescent_ReferenceIdeal_pre_scores_finite_ReferenceIdeal
    (hPre_scores_finite_ReferenceIdeal := Cert.Finite.facts_whole) := fun m g _ => frame_reference m g trivial

theorem preserved : Cert.preserves_Kernel_KernelIdeal :=
  IdealRules.named_const.statement Cert.KernelIdeal.κ "mask" .f32 0xCE6E6B28#32 ⊥ rfl

theorem claim : Cert.Claim :=
  ⟨Cert.Kernel.Gen.facts, Cert.KernelIdeal.Gen.facts, Cert.ReferenceIdeal.Gen.facts, Cert.Finite.facts_device, Cert.Finite.facts_whole,
    frame_kernel, frame_ideal, frame_ideal_finite, frame_reference, frame_reference_finite, preserved, Cert.Whole.value⟩

end Cert.Proof

end
